-- ==== Defs.lean ====
def Pre_Ffn (m : (ℓ : Loc Cert.Ffn.nD Cert.Ffn.τ Cert.Ffn.sig) → Buf (Elt Bits) ℓ) : Prop :=
  True

def Pre_FfnIdeal (m : (ℓ : Loc Cert.FfnIdeal.nD Cert.FfnIdeal.τ Cert.FfnIdeal.sig) → Buf (Elt Ideal) ℓ) : Prop :=
  True

def Pre_FfnRefIdeal (m : (ℓ : Loc Cert.FfnRefIdeal.nD Cert.FfnRefIdeal.τ Cert.FfnRefIdeal.sig) → Buf (Elt Ideal) ℓ) : Prop :=
  True

def Pre_Proj (m : (ℓ : Loc Cert.Proj.nD Cert.Proj.τ Cert.Proj.sig) → Buf (Elt Bits) ℓ) : Prop :=
  True

def Pre_ProjIdeal (m : (ℓ : Loc Cert.ProjIdeal.nD Cert.ProjIdeal.τ Cert.ProjIdeal.sig) → Buf (Elt Ideal) ℓ) : Prop :=
  True

def Pre_ProjRefIdeal (m : (ℓ : Loc Cert.ProjRefIdeal.nD Cert.ProjRefIdeal.τ Cert.ProjRefIdeal.sig) → Buf (Elt Ideal) ℓ) : Prop :=
  True

def Pre_Rwkv (m : (ℓ : Loc Cert.Rwkv.nD Cert.Rwkv.τ Cert.Rwkv.sig) → Buf (Elt Bits) ℓ) : Prop :=
  True

def Pre_RwkvIdeal (m : (ℓ : Loc Cert.RwkvIdeal.nD Cert.RwkvIdeal.τ Cert.RwkvIdeal.sig) → Buf (Elt Ideal) ℓ) : Prop :=
  True

def Pre_Compress (m : (ℓ : Loc Cert.Compress.nD Cert.Compress.τ Cert.Compress.sig) → Buf (Elt Bits) ℓ) : Prop :=
  True

def Pre_CompressIdeal (m : (ℓ : Loc Cert.CompressIdeal.nD Cert.CompressIdeal.τ Cert.CompressIdeal.sig) → Buf (Elt Ideal) ℓ) : Prop :=
  True

def quiescent_Ffn [hFfn : Cert.Ffn.Facts] : Prop :=
  ∀ (m : (ℓ : Loc Cert.Ffn.nD Cert.Ffn.τ Cert.Ffn.sig) → Buf (Elt Bits) ℓ) (g : Dev Cert.Ffn.nD → PrngReg), Pre_Ffn m →
    θ_run (Cert.Ffn.defs (F := Bits)) (onTc (τ := Cert.Ffn.τ) (Cert.Ffn.main (F := Bits))) ⟨m, fun _ => 0, g⟩ (fun r => (∀ c : Dev Cert.Ffn.nD,
      r.2.mem ((c.tc : Thread Cert.Ffn.nD Cert.Ffn.τ).loc Cert.Ffn.main_arg0) = m ((c.tc : Thread Cert.Ffn.nD Cert.Ffn.τ).loc Cert.Ffn.main_arg0)
      ∧ r.2.mem ((c.tc : Thread Cert.Ffn.nD Cert.Ffn.τ).loc Cert.Ffn.main_arg1) = m ((c.tc : Thread Cert.Ffn.nD Cert.Ffn.τ).loc Cert.Ffn.main_arg1)
      ∧ r.2.mem ((c.tc : Thread Cert.Ffn.nD Cert.Ffn.τ).loc Cert.Ffn.main_arg2) = m ((c.tc : Thread Cert.Ffn.nD Cert.Ffn.τ).loc Cert.Ffn.main_arg2)
      ∧ r.2.mem ((c.tc : Thread Cert.Ffn.nD Cert.Ffn.τ).loc Cert.Ffn.main_arg3) = m ((c.tc : Thread Cert.Ffn.nD Cert.Ffn.τ).loc Cert.Ffn.main_arg3)
      ∧ r.2.mem ((c.tc : Thread Cert.Ffn.nD Cert.Ffn.τ).loc Cert.Ffn.main_arg4) = m ((c.tc : Thread Cert.Ffn.nD Cert.Ffn.τ).loc Cert.Ffn.main_arg4)
      ∧ r.2.mem ((c.tc : Thread Cert.Ffn.nD Cert.Ffn.τ).loc Cert.Ffn.main_arg5) = m ((c.tc : Thread Cert.Ffn.nD Cert.Ffn.τ).loc Cert.Ffn.main_arg5)
      ∧ r.2.mem ((c.tc : Thread Cert.Ffn.nD Cert.Ffn.τ).loc Cert.Ffn.main_arg6) = m ((c.tc : Thread Cert.Ffn.nD Cert.Ffn.τ).loc Cert.Ffn.main_arg6)
      ∧ r.2.mem ((c.tc : Thread Cert.Ffn.nD Cert.Ffn.τ).loc Cert.Ffn.main_arg7) = m ((c.tc : Thread Cert.Ffn.nD Cert.Ffn.τ).loc Cert.Ffn.main_arg7))
      ∧ r.2.sem = fun _ => 0)

def quiescent_FfnIdeal [hFfnIdeal : Cert.FfnIdeal.Facts] : Prop :=
  ∀ (m : (ℓ : Loc Cert.FfnIdeal.nD Cert.FfnIdeal.τ Cert.FfnIdeal.sig) → Buf (Elt Ideal) ℓ) (g : Dev Cert.FfnIdeal.nD → PrngReg), Pre_FfnIdeal m →
    θ_run (Cert.FfnIdeal.defs (F := Ideal)) (onTc (τ := Cert.FfnIdeal.τ) (Cert.FfnIdeal.main (F := Ideal))) ⟨m, fun _ => 0, g⟩ (fun r => (∀ c : Dev Cert.FfnIdeal.nD,
      r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
      ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
      ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
      ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
      ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4)
      ∧ r.2.mem ((c.tc : Thread Cert.FfnIdeal.nD Cert.FfnIdeal.τ).loc Cert.FfnIdeal.main_arg5) = m ((c.tc : Thread Cert.FfnIdeal.nD Cert.FfnIdeal.τ).loc Cert.FfnIdeal.main_arg5)
      ∧ r.2.mem ((c.tc : Thread Cert.FfnIdeal.nD Cert.FfnIdeal.τ).loc Cert.FfnIdeal.main_arg6) = m ((c.tc : Thread Cert.FfnIdeal.nD Cert.FfnIdeal.τ).loc Cert.FfnIdeal.main_arg6)
      ∧ r.2.mem ((c.tc : Thread Cert.FfnIdeal.nD Cert.FfnIdeal.τ).loc Cert.FfnIdeal.main_arg7) = m ((c.tc : Thread Cert.FfnIdeal.nD Cert.FfnIdeal.τ).loc Cert.FfnIdeal.main_arg7))
      ∧ r.2.sem = fun _ => 0)

def quiescent_FfnRefIdeal [hFfnRefIdeal : Cert.FfnRefIdeal.Facts] : Prop :=
  ∀ (m : (ℓ : Loc Cert.FfnRefIdeal.nD Cert.FfnRefIdeal.τ Cert.FfnRefIdeal.sig) → Buf (Elt Ideal) ℓ) (g : Dev Cert.FfnRefIdeal.nD → PrngReg), Pre_FfnRefIdeal m →
    θ_run (Cert.FfnRefIdeal.defs (F := Ideal)) (onTc (τ := Cert.FfnRefIdeal.τ) (Cert.FfnRefIdeal.main (F := Ideal))) ⟨m, fun _ => 0, g⟩ (fun r => (∀ c : Dev Cert.FfnRefIdeal.nD,
      r.2.mem ((c.tc : Thread Cert.FfnRefIdeal.nD Cert.FfnRefIdeal.τ).loc Cert.FfnRefIdeal.main_arg0) = m ((c.tc : Thread Cert.FfnRefIdeal.nD Cert.FfnRefIdeal.τ).loc Cert.FfnRefIdeal.main_arg0)
      ∧ r.2.mem ((c.tc : Thread Cert.FfnRefIdeal.nD Cert.FfnRefIdeal.τ).loc Cert.FfnRefIdeal.main_arg1) = m ((c.tc : Thread Cert.FfnRefIdeal.nD Cert.FfnRefIdeal.τ).loc Cert.FfnRefIdeal.main_arg1)
      ∧ r.2.mem ((c.tc : Thread Cert.FfnRefIdeal.nD Cert.FfnRefIdeal.τ).loc Cert.FfnRefIdeal.main_arg2) = m ((c.tc : Thread Cert.FfnRefIdeal.nD Cert.FfnRefIdeal.τ).loc Cert.FfnRefIdeal.main_arg2)
      ∧ r.2.mem ((c.tc : Thread Cert.FfnRefIdeal.nD Cert.FfnRefIdeal.τ).loc Cert.FfnRefIdeal.main_arg3) = m ((c.tc : Thread Cert.FfnRefIdeal.nD Cert.FfnRefIdeal.τ).loc Cert.FfnRefIdeal.main_arg3)
      ∧ r.2.mem ((c.tc : Thread Cert.FfnRefIdeal.nD Cert.FfnRefIdeal.τ).loc Cert.FfnRefIdeal.main_arg4) = m ((c.tc : Thread Cert.FfnRefIdeal.nD Cert.FfnRefIdeal.τ).loc Cert.FfnRefIdeal.main_arg4)
      ∧ r.2.mem ((c.tc : Thread Cert.FfnRefIdeal.nD Cert.FfnRefIdeal.τ).loc Cert.FfnRefIdeal.main_arg5) = m ((c.tc : Thread Cert.FfnRefIdeal.nD Cert.FfnRefIdeal.τ).loc Cert.FfnRefIdeal.main_arg5)
      ∧ r.2.mem ((c.tc : Thread Cert.FfnRefIdeal.nD Cert.FfnRefIdeal.τ).loc Cert.FfnRefIdeal.main_arg6) = m ((c.tc : Thread Cert.FfnRefIdeal.nD Cert.FfnRefIdeal.τ).loc Cert.FfnRefIdeal.main_arg6)
      ∧ r.2.mem ((c.tc : Thread Cert.FfnRefIdeal.nD Cert.FfnRefIdeal.τ).loc Cert.FfnRefIdeal.main_arg7) = m ((c.tc : Thread Cert.FfnRefIdeal.nD Cert.FfnRefIdeal.τ).loc Cert.FfnRefIdeal.main_arg7))
      ∧ r.2.sem = fun _ => 0)

def quiescent_Proj [hProj : Cert.Proj.Facts] : Prop :=
  ∀ (m : (ℓ : Loc Cert.Proj.nD Cert.Proj.τ Cert.Proj.sig) → Buf (Elt Bits) ℓ) (g : Dev Cert.Proj.nD → PrngReg), Pre_Proj m →
    θ_run (Cert.Proj.defs (F := Bits)) (onTc (τ := Cert.Proj.τ) (Cert.Proj.main (F := Bits))) ⟨m, fun _ => 0, g⟩ (fun r => (∀ c : Dev Cert.Proj.nD,
      r.2.mem ((c.tc : Thread Cert.Proj.nD Cert.Proj.τ).loc Cert.Proj.main_arg0) = m ((c.tc : Thread Cert.Proj.nD Cert.Proj.τ).loc Cert.Proj.main_arg0)
      ∧ r.2.mem ((c.tc : Thread Cert.Proj.nD Cert.Proj.τ).loc Cert.Proj.main_arg1) = m ((c.tc : Thread Cert.Proj.nD Cert.Proj.τ).loc Cert.Proj.main_arg1)
      ∧ r.2.mem ((c.tc : Thread Cert.Proj.nD Cert.Proj.τ).loc Cert.Proj.main_arg2) = m ((c.tc : Thread Cert.Proj.nD Cert.Proj.τ).loc Cert.Proj.main_arg2)
      ∧ r.2.mem ((c.tc : Thread Cert.Proj.nD Cert.Proj.τ).loc Cert.Proj.main_arg3) = m ((c.tc : Thread Cert.Proj.nD Cert.Proj.τ).loc Cert.Proj.main_arg3))
      ∧ r.2.sem = fun _ => 0)

def quiescent_ProjIdeal [hProjIdeal : Cert.ProjIdeal.Facts] : Prop :=
  ∀ (m : (ℓ : Loc Cert.ProjIdeal.nD Cert.ProjIdeal.τ Cert.ProjIdeal.sig) → Buf (Elt Ideal) ℓ) (g : Dev Cert.ProjIdeal.nD → PrngReg), Pre_ProjIdeal m →
    θ_run (Cert.ProjIdeal.defs (F := Ideal)) (onTc (τ := Cert.ProjIdeal.τ) (Cert.ProjIdeal.main (F := Ideal))) ⟨m, fun _ => 0, g⟩ (fun r => (∀ c : Dev Cert.ProjIdeal.nD,
      r.2.mem ((c.tc : Thread Cert.ProjIdeal.nD Cert.ProjIdeal.τ).loc Cert.ProjIdeal.main_arg0) = m ((c.tc : Thread Cert.ProjIdeal.nD Cert.ProjIdeal.τ).loc Cert.ProjIdeal.main_arg0)
      ∧ r.2.mem ((c.tc : Thread Cert.ProjIdeal.nD Cert.ProjIdeal.τ).loc Cert.ProjIdeal.main_arg1) = m ((c.tc : Thread Cert.ProjIdeal.nD Cert.ProjIdeal.τ).loc Cert.ProjIdeal.main_arg1)
      ∧ r.2.mem ((c.tc : Thread Cert.ProjIdeal.nD Cert.ProjIdeal.τ).loc Cert.ProjIdeal.main_arg2) = m ((c.tc : Thread Cert.ProjIdeal.nD Cert.ProjIdeal.τ).loc Cert.ProjIdeal.main_arg2)
      ∧ r.2.mem ((c.tc : Thread Cert.ProjIdeal.nD Cert.ProjIdeal.τ).loc Cert.ProjIdeal.main_arg3) = m ((c.tc : Thread Cert.ProjIdeal.nD Cert.ProjIdeal.τ).loc Cert.ProjIdeal.main_arg3))
      ∧ r.2.sem = fun _ => 0)

def quiescent_ProjRefIdeal [hProjRefIdeal : Cert.ProjRefIdeal.Facts] : Prop :=
  ∀ (m : (ℓ : Loc Cert.ProjRefIdeal.nD Cert.ProjRefIdeal.τ Cert.ProjRefIdeal.sig) → Buf (Elt Ideal) ℓ) (g : Dev Cert.ProjRefIdeal.nD → PrngReg), Pre_ProjRefIdeal m →
    θ_run (Cert.ProjRefIdeal.defs (F := Ideal)) (onTc (τ := Cert.ProjRefIdeal.τ) (Cert.ProjRefIdeal.main (F := Ideal))) ⟨m, fun _ => 0, g⟩ (fun r => (∀ c : Dev Cert.ProjRefIdeal.nD,
      r.2.mem ((c.tc : Thread Cert.ProjRefIdeal.nD Cert.ProjRefIdeal.τ).loc Cert.ProjRefIdeal.main_arg0) = m ((c.tc : Thread Cert.ProjRefIdeal.nD Cert.ProjRefIdeal.τ).loc Cert.ProjRefIdeal.main_arg0)
      ∧ r.2.mem ((c.tc : Thread Cert.ProjRefIdeal.nD Cert.ProjRefIdeal.τ).loc Cert.ProjRefIdeal.main_arg1) = m ((c.tc : Thread Cert.ProjRefIdeal.nD Cert.ProjRefIdeal.τ).loc Cert.ProjRefIdeal.main_arg1)
      ∧ r.2.mem ((c.tc : Thread Cert.ProjRefIdeal.nD Cert.ProjRefIdeal.τ).loc Cert.ProjRefIdeal.main_arg2) = m ((c.tc : Thread Cert.ProjRefIdeal.nD Cert.ProjRefIdeal.τ).loc Cert.ProjRefIdeal.main_arg2)
      ∧ r.2.mem ((c.tc : Thread Cert.ProjRefIdeal.nD Cert.ProjRefIdeal.τ).loc Cert.ProjRefIdeal.main_arg3) = m ((c.tc : Thread Cert.ProjRefIdeal.nD Cert.ProjRefIdeal.τ).loc Cert.ProjRefIdeal.main_arg3))
      ∧ r.2.sem = fun _ => 0)

def quiescent_Rwkv [hRwkv : Cert.Rwkv.Facts] : Prop :=
  ∀ (m : (ℓ : Loc Cert.Rwkv.nD Cert.Rwkv.τ Cert.Rwkv.sig) → Buf (Elt Bits) ℓ) (g : Dev Cert.Rwkv.nD → PrngReg), Pre_Rwkv m →
    θ_run (Cert.Rwkv.defs (F := Bits)) (onTc (τ := Cert.Rwkv.τ) (Cert.Rwkv.main (F := Bits))) ⟨m, fun _ => 0, g⟩ (fun r => (∀ c : Dev Cert.Rwkv.nD,
      r.2.mem ((c.tc : Thread Cert.Rwkv.nD Cert.Rwkv.τ).loc Cert.Rwkv.main_arg0) = m ((c.tc : Thread Cert.Rwkv.nD Cert.Rwkv.τ).loc Cert.Rwkv.main_arg0)
      ∧ r.2.mem ((c.tc : Thread Cert.Rwkv.nD Cert.Rwkv.τ).loc Cert.Rwkv.main_arg1) = m ((c.tc : Thread Cert.Rwkv.nD Cert.Rwkv.τ).loc Cert.Rwkv.main_arg1)
      ∧ r.2.mem ((c.tc : Thread Cert.Rwkv.nD Cert.Rwkv.τ).loc Cert.Rwkv.main_arg2) = m ((c.tc : Thread Cert.Rwkv.nD Cert.Rwkv.τ).loc Cert.Rwkv.main_arg2)
      ∧ r.2.mem ((c.tc : Thread Cert.Rwkv.nD Cert.Rwkv.τ).loc Cert.Rwkv.main_arg3) = m ((c.tc : Thread Cert.Rwkv.nD Cert.Rwkv.τ).loc Cert.Rwkv.main_arg3)
      ∧ r.2.mem ((c.tc : Thread Cert.Rwkv.nD Cert.Rwkv.τ).loc Cert.Rwkv.main_arg4) = m ((c.tc : Thread Cert.Rwkv.nD Cert.Rwkv.τ).loc Cert.Rwkv.main_arg4)
      ∧ r.2.mem ((c.tc : Thread Cert.Rwkv.nD Cert.Rwkv.τ).loc Cert.Rwkv.main_arg5) = m ((c.tc : Thread Cert.Rwkv.nD Cert.Rwkv.τ).loc Cert.Rwkv.main_arg5)
      ∧ r.2.mem ((c.tc : Thread Cert.Rwkv.nD Cert.Rwkv.τ).loc Cert.Rwkv.main_arg6) = m ((c.tc : Thread Cert.Rwkv.nD Cert.Rwkv.τ).loc Cert.Rwkv.main_arg6)
      ∧ r.2.mem ((c.tc : Thread Cert.Rwkv.nD Cert.Rwkv.τ).loc Cert.Rwkv.main_arg7) = m ((c.tc : Thread Cert.Rwkv.nD Cert.Rwkv.τ).loc Cert.Rwkv.main_arg7)
      ∧ r.2.mem ((c.tc : Thread Cert.Rwkv.nD Cert.Rwkv.τ).loc Cert.Rwkv.main_arg8) = m ((c.tc : Thread Cert.Rwkv.nD Cert.Rwkv.τ).loc Cert.Rwkv.main_arg8)
      ∧ r.2.mem ((c.tc : Thread Cert.Rwkv.nD Cert.Rwkv.τ).loc Cert.Rwkv.main_arg9) = m ((c.tc : Thread Cert.Rwkv.nD Cert.Rwkv.τ).loc Cert.Rwkv.main_arg9)
      ∧ r.2.mem ((c.tc : Thread Cert.Rwkv.nD Cert.Rwkv.τ).loc Cert.Rwkv.main_arg10) = m ((c.tc : Thread Cert.Rwkv.nD Cert.Rwkv.τ).loc Cert.Rwkv.main_arg10)
      ∧ r.2.mem ((c.tc : Thread Cert.Rwkv.nD Cert.Rwkv.τ).loc Cert.Rwkv.main_arg11) = m ((c.tc : Thread Cert.Rwkv.nD Cert.Rwkv.τ).loc Cert.Rwkv.main_arg11))
      ∧ r.2.sem = fun _ => 0)

def quiescent_RwkvIdeal [hRwkvIdeal : Cert.RwkvIdeal.Facts] : Prop :=
  ∀ (m : (ℓ : Loc Cert.RwkvIdeal.nD Cert.RwkvIdeal.τ Cert.RwkvIdeal.sig) → Buf (Elt Ideal) ℓ) (g : Dev Cert.RwkvIdeal.nD → PrngReg), Pre_RwkvIdeal m →
    θ_run (Cert.RwkvIdeal.defs (F := Ideal)) (onTc (τ := Cert.RwkvIdeal.τ) (Cert.RwkvIdeal.main (F := Ideal))) ⟨m, fun _ => 0, g⟩ (fun r => (∀ c : Dev Cert.RwkvIdeal.nD,
      r.2.mem ((c.tc : Thread Cert.RwkvIdeal.nD Cert.RwkvIdeal.τ).loc Cert.RwkvIdeal.main_arg0) = m ((c.tc : Thread Cert.RwkvIdeal.nD Cert.RwkvIdeal.τ).loc Cert.RwkvIdeal.main_arg0)
      ∧ r.2.mem ((c.tc : Thread Cert.RwkvIdeal.nD Cert.RwkvIdeal.τ).loc Cert.RwkvIdeal.main_arg1) = m ((c.tc : Thread Cert.RwkvIdeal.nD Cert.RwkvIdeal.τ).loc Cert.RwkvIdeal.main_arg1)
      ∧ r.2.mem ((c.tc : Thread Cert.RwkvIdeal.nD Cert.RwkvIdeal.τ).loc Cert.RwkvIdeal.main_arg2) = m ((c.tc : Thread Cert.RwkvIdeal.nD Cert.RwkvIdeal.τ).loc Cert.RwkvIdeal.main_arg2)
      ∧ r.2.mem ((c.tc : Thread Cert.RwkvIdeal.nD Cert.RwkvIdeal.τ).loc Cert.RwkvIdeal.main_arg3) = m ((c.tc : Thread Cert.RwkvIdeal.nD Cert.RwkvIdeal.τ).loc Cert.RwkvIdeal.main_arg3)
      ∧ r.2.mem ((c.tc : Thread Cert.RwkvIdeal.nD Cert.RwkvIdeal.τ).loc Cert.RwkvIdeal.main_arg4) = m ((c.tc : Thread Cert.RwkvIdeal.nD Cert.RwkvIdeal.τ).loc Cert.RwkvIdeal.main_arg4)
      ∧ r.2.mem ((c.tc : Thread Cert.RwkvIdeal.nD Cert.RwkvIdeal.τ).loc Cert.RwkvIdeal.main_arg5) = m ((c.tc : Thread Cert.RwkvIdeal.nD Cert.RwkvIdeal.τ).loc Cert.RwkvIdeal.main_arg5)
      ∧ r.2.mem ((c.tc : Thread Cert.RwkvIdeal.nD Cert.RwkvIdeal.τ).loc Cert.RwkvIdeal.main_arg6) = m ((c.tc : Thread Cert.RwkvIdeal.nD Cert.RwkvIdeal.τ).loc Cert.RwkvIdeal.main_arg6)
      ∧ r.2.mem ((c.tc : Thread Cert.RwkvIdeal.nD Cert.RwkvIdeal.τ).loc Cert.RwkvIdeal.main_arg7) = m ((c.tc : Thread Cert.RwkvIdeal.nD Cert.RwkvIdeal.τ).loc Cert.RwkvIdeal.main_arg7)
      ∧ r.2.mem ((c.tc : Thread Cert.RwkvIdeal.nD Cert.RwkvIdeal.τ).loc Cert.RwkvIdeal.main_arg8) = m ((c.tc : Thread Cert.RwkvIdeal.nD Cert.RwkvIdeal.τ).loc Cert.RwkvIdeal.main_arg8)
      ∧ r.2.mem ((c.tc : Thread Cert.RwkvIdeal.nD Cert.RwkvIdeal.τ).loc Cert.RwkvIdeal.main_arg9) = m ((c.tc : Thread Cert.RwkvIdeal.nD Cert.RwkvIdeal.τ).loc Cert.RwkvIdeal.main_arg9)
      ∧ r.2.mem ((c.tc : Thread Cert.RwkvIdeal.nD Cert.RwkvIdeal.τ).loc Cert.RwkvIdeal.main_arg10) = m ((c.tc : Thread Cert.RwkvIdeal.nD Cert.RwkvIdeal.τ).loc Cert.RwkvIdeal.main_arg10)
      ∧ r.2.mem ((c.tc : Thread Cert.RwkvIdeal.nD Cert.RwkvIdeal.τ).loc Cert.RwkvIdeal.main_arg11) = m ((c.tc : Thread Cert.RwkvIdeal.nD Cert.RwkvIdeal.τ).loc Cert.RwkvIdeal.main_arg11))
      ∧ r.2.sem = fun _ => 0)

def quiescent_Compress [hCompress : Cert.Compress.Facts] : Prop :=
  ∀ (m : (ℓ : Loc Cert.Compress.nD Cert.Compress.τ Cert.Compress.sig) → Buf (Elt Bits) ℓ) (g : Dev Cert.Compress.nD → PrngReg), Pre_Compress m →
    θ_run (Cert.Compress.defs (F := Bits)) (onTc (τ := Cert.Compress.τ) (Cert.Compress.main (F := Bits))) ⟨m, fun _ => 0, g⟩ (fun r => (∀ c : Dev Cert.Compress.nD,
      r.2.mem ((c.tc : Thread Cert.Compress.nD Cert.Compress.τ).loc Cert.Compress.main_arg0) = m ((c.tc : Thread Cert.Compress.nD Cert.Compress.τ).loc Cert.Compress.main_arg0)
      ∧ r.2.mem ((c.tc : Thread Cert.Compress.nD Cert.Compress.τ).loc Cert.Compress.main_arg1) = m ((c.tc : Thread Cert.Compress.nD Cert.Compress.τ).loc Cert.Compress.main_arg1)
      ∧ r.2.mem ((c.tc : Thread Cert.Compress.nD Cert.Compress.τ).loc Cert.Compress.main_arg2) = m ((c.tc : Thread Cert.Compress.nD Cert.Compress.τ).loc Cert.Compress.main_arg2)
      ∧ r.2.mem ((c.tc : Thread Cert.Compress.nD Cert.Compress.τ).loc Cert.Compress.main_arg3) = m ((c.tc : Thread Cert.Compress.nD Cert.Compress.τ).loc Cert.Compress.main_arg3)
      ∧ r.2.mem ((c.tc : Thread Cert.Compress.nD Cert.Compress.τ).loc Cert.Compress.main_arg4) = m ((c.tc : Thread Cert.Compress.nD Cert.Compress.τ).loc Cert.Compress.main_arg4)
      ∧ r.2.mem ((c.tc : Thread Cert.Compress.nD Cert.Compress.τ).loc Cert.Compress.main_arg5) = m ((c.tc : Thread Cert.Compress.nD Cert.Compress.τ).loc Cert.Compress.main_arg5)
      ∧ r.2.mem ((c.tc : Thread Cert.Compress.nD Cert.Compress.τ).loc Cert.Compress.main_arg6) = m ((c.tc : Thread Cert.Compress.nD Cert.Compress.τ).loc Cert.Compress.main_arg6)
      ∧ r.2.mem ((c.tc : Thread Cert.Compress.nD Cert.Compress.τ).loc Cert.Compress.main_arg7) = m ((c.tc : Thread Cert.Compress.nD Cert.Compress.τ).loc Cert.Compress.main_arg7))
      ∧ r.2.sem = fun _ => 0)

def quiescent_CompressIdeal [hCompressIdeal : Cert.CompressIdeal.Facts] : Prop :=
  ∀ (m : (ℓ : Loc Cert.CompressIdeal.nD Cert.CompressIdeal.τ Cert.CompressIdeal.sig) → Buf (Elt Ideal) ℓ) (g : Dev Cert.CompressIdeal.nD → PrngReg), Pre_CompressIdeal m →
    θ_run (Cert.CompressIdeal.defs (F := Ideal)) (onTc (τ := Cert.CompressIdeal.τ) (Cert.CompressIdeal.main (F := Ideal))) ⟨m, fun _ => 0, g⟩ (fun r => (∀ c : Dev Cert.CompressIdeal.nD,
      r.2.mem ((c.tc : Thread Cert.CompressIdeal.nD Cert.CompressIdeal.τ).loc Cert.CompressIdeal.main_arg0) = m ((c.tc : Thread Cert.CompressIdeal.nD Cert.CompressIdeal.τ).loc Cert.CompressIdeal.main_arg0)
      ∧ r.2.mem ((c.tc : Thread Cert.CompressIdeal.nD Cert.CompressIdeal.τ).loc Cert.CompressIdeal.main_arg1) = m ((c.tc : Thread Cert.CompressIdeal.nD Cert.CompressIdeal.τ).loc Cert.CompressIdeal.main_arg1)
      ∧ r.2.mem ((c.tc : Thread Cert.CompressIdeal.nD Cert.CompressIdeal.τ).loc Cert.CompressIdeal.main_arg2) = m ((c.tc : Thread Cert.CompressIdeal.nD Cert.CompressIdeal.τ).loc Cert.CompressIdeal.main_arg2)
      ∧ r.2.mem ((c.tc : Thread Cert.CompressIdeal.nD Cert.CompressIdeal.τ).loc Cert.CompressIdeal.main_arg3) = m ((c.tc : Thread Cert.CompressIdeal.nD Cert.CompressIdeal.τ).loc Cert.CompressIdeal.main_arg3)
      ∧ r.2.mem ((c.tc : Thread Cert.CompressIdeal.nD Cert.CompressIdeal.τ).loc Cert.CompressIdeal.main_arg4) = m ((c.tc : Thread Cert.CompressIdeal.nD Cert.CompressIdeal.τ).loc Cert.CompressIdeal.main_arg4)
      ∧ r.2.mem ((c.tc : Thread Cert.CompressIdeal.nD Cert.CompressIdeal.τ).loc Cert.CompressIdeal.main_arg5) = m ((c.tc : Thread Cert.CompressIdeal.nD Cert.CompressIdeal.τ).loc Cert.CompressIdeal.main_arg5)
      ∧ r.2.mem ((c.tc : Thread Cert.CompressIdeal.nD Cert.CompressIdeal.τ).loc Cert.CompressIdeal.main_arg6) = m ((c.tc : Thread Cert.CompressIdeal.nD Cert.CompressIdeal.τ).loc Cert.CompressIdeal.main_arg6)
      ∧ r.2.mem ((c.tc : Thread Cert.CompressIdeal.nD Cert.CompressIdeal.τ).loc Cert.CompressIdeal.main_arg7) = m ((c.tc : Thread Cert.CompressIdeal.nD Cert.CompressIdeal.τ).loc Cert.CompressIdeal.main_arg7))
      ∧ r.2.sem = fun _ => 0)

def preserves_Ffn_FfnIdeal : Prop :=
  True

def algebraic_FfnIdeal_FfnRefIdeal [hFfnIdeal : Cert.FfnIdeal.Facts] [hFfnRefIdeal : Cert.FfnRefIdeal.Facts] : Prop :=
  ∀ (m : (ℓ : Loc Cert.FfnIdeal.nD Cert.FfnIdeal.τ Cert.FfnIdeal.sig) → Buf (Elt Ideal) ℓ) (g : Dev Cert.FfnIdeal.nD → PrngReg)
    (m' : (ℓ : Loc Cert.FfnRefIdeal.nD Cert.FfnRefIdeal.τ Cert.FfnRefIdeal.sig) → Buf (Elt Ideal) ℓ) (g' : Dev Cert.FfnRefIdeal.nD → PrngReg), Pre_FfnIdeal m →
    (∀ c : Dev Cert.FfnIdeal.nD,
      m' ((c.tc : Thread Cert.FfnRefIdeal.nD Cert.FfnRefIdeal.τ).loc Cert.FfnRefIdeal.main_arg0) = m ((c.tc : Thread Cert.FfnIdeal.nD Cert.FfnIdeal.τ).loc Cert.FfnIdeal.main_arg0)
      ∧ m' ((c.tc : Thread Cert.FfnRefIdeal.nD Cert.FfnRefIdeal.τ).loc Cert.FfnRefIdeal.main_arg1) = m ((c.tc : Thread Cert.FfnIdeal.nD Cert.FfnIdeal.τ).loc Cert.FfnIdeal.main_arg1)
      ∧ m' ((c.tc : Thread Cert.FfnRefIdeal.nD Cert.FfnRefIdeal.τ).loc Cert.FfnRefIdeal.main_arg2) = m ((c.tc : Thread Cert.FfnIdeal.nD Cert.FfnIdeal.τ).loc Cert.FfnIdeal.main_arg2)
      ∧ m' ((c.tc : Thread Cert.FfnRefIdeal.nD Cert.FfnRefIdeal.τ).loc Cert.FfnRefIdeal.main_arg3) = m ((c.tc : Thread Cert.FfnIdeal.nD Cert.FfnIdeal.τ).loc Cert.FfnIdeal.main_arg3)
      ∧ m' ((c.tc : Thread Cert.FfnRefIdeal.nD Cert.FfnRefIdeal.τ).loc Cert.FfnRefIdeal.main_arg4) = m ((c.tc : Thread Cert.FfnIdeal.nD Cert.FfnIdeal.τ).loc Cert.FfnIdeal.main_arg4)
      ∧ m' ((c.tc : Thread Cert.FfnRefIdeal.nD Cert.FfnRefIdeal.τ).loc Cert.FfnRefIdeal.main_arg5) = m ((c.tc : Thread Cert.FfnIdeal.nD Cert.FfnIdeal.τ).loc Cert.FfnIdeal.main_arg5)
      ∧ m' ((c.tc : Thread Cert.FfnRefIdeal.nD Cert.FfnRefIdeal.τ).loc Cert.FfnRefIdeal.main_arg6) = m ((c.tc : Thread Cert.FfnIdeal.nD Cert.FfnIdeal.τ).loc Cert.FfnIdeal.main_arg6)
      ∧ m' ((c.tc : Thread Cert.FfnRefIdeal.nD Cert.FfnRefIdeal.τ).loc Cert.FfnRefIdeal.main_arg7) = m ((c.tc : Thread Cert.FfnIdeal.nD Cert.FfnIdeal.τ).loc Cert.FfnIdeal.main_arg7)) →
    ∃ (v0 : (c : Dev Cert.FfnIdeal.nD) → Buf (Elt Ideal) ((c.tc : Thread Cert.FfnIdeal.nD Cert.FfnIdeal.τ).loc Cert.FfnIdeal.main_v26)),
      θ_run (Cert.FfnIdeal.defs (F := Ideal)) (onTc (τ := Cert.FfnIdeal.τ) (Cert.FfnIdeal.main (F := Ideal))) ⟨m, fun _ => 0, g⟩ (fun r => ∀ c : Dev Cert.FfnIdeal.nD,
          r.2.mem ((c.tc : Thread Cert.FfnIdeal.nD Cert.FfnIdeal.τ).loc Cert.FfnIdeal.main_v26) = v0 c
          ∧ r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
          ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
          ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
          ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
          ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4)
          ∧ r.2.mem ((c.tc : Thread Cert.FfnIdeal.nD Cert.FfnIdeal.τ).loc Cert.FfnIdeal.main_arg5) = m ((c.tc : Thread Cert.FfnIdeal.nD Cert.FfnIdeal.τ).loc Cert.FfnIdeal.main_arg5)
          ∧ r.2.mem ((c.tc : Thread Cert.FfnIdeal.nD Cert.FfnIdeal.τ).loc Cert.FfnIdeal.main_arg6) = m ((c.tc : Thread Cert.FfnIdeal.nD Cert.FfnIdeal.τ).loc Cert.FfnIdeal.main_arg6)
          ∧ r.2.mem ((c.tc : Thread Cert.FfnIdeal.nD Cert.FfnIdeal.τ).loc Cert.FfnIdeal.main_arg7) = m ((c.tc : Thread Cert.FfnIdeal.nD Cert.FfnIdeal.τ).loc Cert.FfnIdeal.main_arg7))
      ∧ θ_run (Cert.FfnRefIdeal.defs (F := Ideal)) (onTc (τ := Cert.FfnRefIdeal.τ) (Cert.FfnRefIdeal.main (F := Ideal))) ⟨m', fun _ => 0, g'⟩ (fun r => ∀ c : Dev Cert.FfnRefIdeal.nD,
          r.2.mem ((c.tc : Thread Cert.FfnRefIdeal.nD Cert.FfnRefIdeal.τ).loc Cert.FfnRefIdeal.main_v39) = v0 c
          ∧ r.2.mem ((c.tc : Thread Cert.FfnRefIdeal.nD Cert.FfnRefIdeal.τ).loc Cert.FfnRefIdeal.main_arg0) = m' ((c.tc : Thread Cert.FfnRefIdeal.nD Cert.FfnRefIdeal.τ).loc Cert.FfnRefIdeal.main_arg0)
          ∧ r.2.mem ((c.tc : Thread Cert.FfnRefIdeal.nD Cert.FfnRefIdeal.τ).loc Cert.FfnRefIdeal.main_arg1) = m' ((c.tc : Thread Cert.FfnRefIdeal.nD Cert.FfnRefIdeal.τ).loc Cert.FfnRefIdeal.main_arg1)
          ∧ r.2.mem ((c.tc : Thread Cert.FfnRefIdeal.nD Cert.FfnRefIdeal.τ).loc Cert.FfnRefIdeal.main_arg2) = m' ((c.tc : Thread Cert.FfnRefIdeal.nD Cert.FfnRefIdeal.τ).loc Cert.FfnRefIdeal.main_arg2)
          ∧ r.2.mem ((c.tc : Thread Cert.FfnRefIdeal.nD Cert.FfnRefIdeal.τ).loc Cert.FfnRefIdeal.main_arg3) = m' ((c.tc : Thread Cert.FfnRefIdeal.nD Cert.FfnRefIdeal.τ).loc Cert.FfnRefIdeal.main_arg3)
          ∧ r.2.mem ((c.tc : Thread Cert.FfnRefIdeal.nD Cert.FfnRefIdeal.τ).loc Cert.FfnRefIdeal.main_arg4) = m' ((c.tc : Thread Cert.FfnRefIdeal.nD Cert.FfnRefIdeal.τ).loc Cert.FfnRefIdeal.main_arg4)
          ∧ r.2.mem ((c.tc : Thread Cert.FfnRefIdeal.nD Cert.FfnRefIdeal.τ).loc Cert.FfnRefIdeal.main_arg5) = m' ((c.tc : Thread Cert.FfnRefIdeal.nD Cert.FfnRefIdeal.τ).loc Cert.FfnRefIdeal.main_arg5)
          ∧ r.2.mem ((c.tc : Thread Cert.FfnRefIdeal.nD Cert.FfnRefIdeal.τ).loc Cert.FfnRefIdeal.main_arg6) = m' ((c.tc : Thread Cert.FfnRefIdeal.nD Cert.FfnRefIdeal.τ).loc Cert.FfnRefIdeal.main_arg6)
          ∧ r.2.mem ((c.tc : Thread Cert.FfnRefIdeal.nD Cert.FfnRefIdeal.τ).loc Cert.FfnRefIdeal.main_arg7) = m' ((c.tc : Thread Cert.FfnRefIdeal.nD Cert.FfnRefIdeal.τ).loc Cert.FfnRefIdeal.main_arg7))

def preserves_Proj_ProjIdeal : Prop :=
  True

def algebraic_ProjIdeal_ProjRefIdeal [hProjIdeal : Cert.ProjIdeal.Facts] [hProjRefIdeal : Cert.ProjRefIdeal.Facts] : Prop :=
  ∀ (m : (ℓ : Loc Cert.ProjIdeal.nD Cert.ProjIdeal.τ Cert.ProjIdeal.sig) → Buf (Elt Ideal) ℓ) (g : Dev Cert.ProjIdeal.nD → PrngReg)
    (m' : (ℓ : Loc Cert.ProjRefIdeal.nD Cert.ProjRefIdeal.τ Cert.ProjRefIdeal.sig) → Buf (Elt Ideal) ℓ) (g' : Dev Cert.ProjRefIdeal.nD → PrngReg), Pre_ProjIdeal m →
    (∀ c : Dev Cert.ProjIdeal.nD,
      m' ((c.tc : Thread Cert.ProjRefIdeal.nD Cert.ProjRefIdeal.τ).loc Cert.ProjRefIdeal.main_arg0) = m ((c.tc : Thread Cert.ProjIdeal.nD Cert.ProjIdeal.τ).loc Cert.ProjIdeal.main_arg0)
      ∧ m' ((c.tc : Thread Cert.ProjRefIdeal.nD Cert.ProjRefIdeal.τ).loc Cert.ProjRefIdeal.main_arg1) = m ((c.tc : Thread Cert.ProjIdeal.nD Cert.ProjIdeal.τ).loc Cert.ProjIdeal.main_arg1)
      ∧ m' ((c.tc : Thread Cert.ProjRefIdeal.nD Cert.ProjRefIdeal.τ).loc Cert.ProjRefIdeal.main_arg2) = m ((c.tc : Thread Cert.ProjIdeal.nD Cert.ProjIdeal.τ).loc Cert.ProjIdeal.main_arg2)
      ∧ m' ((c.tc : Thread Cert.ProjRefIdeal.nD Cert.ProjRefIdeal.τ).loc Cert.ProjRefIdeal.main_arg3) = m ((c.tc : Thread Cert.ProjIdeal.nD Cert.ProjIdeal.τ).loc Cert.ProjIdeal.main_arg3)) →
    ∃ (v0 : (c : Dev Cert.ProjIdeal.nD) → Buf (Elt Ideal) ((c.tc : Thread Cert.ProjIdeal.nD Cert.ProjIdeal.τ).loc Cert.ProjIdeal.main_v46_0)) (v1 : (c : Dev Cert.ProjIdeal.nD) → Buf (Elt Ideal) ((c.tc : Thread Cert.ProjIdeal.nD Cert.ProjIdeal.τ).loc Cert.ProjIdeal.main_v46_1)) (v2 : (c : Dev Cert.ProjIdeal.nD) → Buf (Elt Ideal) ((c.tc : Thread Cert.ProjIdeal.nD Cert.ProjIdeal.τ).loc Cert.ProjIdeal.main_v46_2)) (v3 : (c : Dev Cert.ProjIdeal.nD) → Buf (Elt Ideal) ((c.tc : Thread Cert.ProjIdeal.nD Cert.ProjIdeal.τ).loc Cert.ProjIdeal.main_v46_3)) (v4 : (c : Dev Cert.ProjIdeal.nD) → Buf (Elt Ideal) ((c.tc : Thread Cert.ProjIdeal.nD Cert.ProjIdeal.τ).loc Cert.ProjIdeal.main_v46_4)) (v5 : (c : Dev Cert.ProjIdeal.nD) → Buf (Elt Ideal) ((c.tc : Thread Cert.ProjIdeal.nD Cert.ProjIdeal.τ).loc Cert.ProjIdeal.main_v46_5)) (v6 : (c : Dev Cert.ProjIdeal.nD) → Buf (Elt Ideal) ((c.tc : Thread Cert.ProjIdeal.nD Cert.ProjIdeal.τ).loc Cert.ProjIdeal.main_v46_6)) (v7 : (c : Dev Cert.ProjIdeal.nD) → Buf (Elt Ideal) ((c.tc : Thread Cert.ProjIdeal.nD Cert.ProjIdeal.τ).loc Cert.ProjIdeal.main_v46_7)) (v8 : (c : Dev Cert.ProjIdeal.nD) → Buf (Elt Ideal) ((c.tc : Thread Cert.ProjIdeal.nD Cert.ProjIdeal.τ).loc Cert.ProjIdeal.main_v46_8)),
      θ_run (Cert.ProjIdeal.defs (F := Ideal)) (onTc (τ := Cert.ProjIdeal.τ) (Cert.ProjIdeal.main (F := Ideal))) ⟨m, fun _ => 0, g⟩ (fun r => ∀ c : Dev Cert.ProjIdeal.nD,
          r.2.mem ((c.tc : Thread Cert.ProjIdeal.nD Cert.ProjIdeal.τ).loc Cert.ProjIdeal.main_v46_0) = v0 c
          ∧ r.2.mem ((c.tc : Thread Cert.ProjIdeal.nD Cert.ProjIdeal.τ).loc Cert.ProjIdeal.main_v46_1) = v1 c
          ∧ r.2.mem ((c.tc : Thread Cert.ProjIdeal.nD Cert.ProjIdeal.τ).loc Cert.ProjIdeal.main_v46_2) = v2 c
          ∧ r.2.mem ((c.tc : Thread Cert.ProjIdeal.nD Cert.ProjIdeal.τ).loc Cert.ProjIdeal.main_v46_3) = v3 c
          ∧ r.2.mem ((c.tc : Thread Cert.ProjIdeal.nD Cert.ProjIdeal.τ).loc Cert.ProjIdeal.main_v46_4) = v4 c
          ∧ r.2.mem ((c.tc : Thread Cert.ProjIdeal.nD Cert.ProjIdeal.τ).loc Cert.ProjIdeal.main_v46_5) = v5 c
          ∧ r.2.mem ((c.tc : Thread Cert.ProjIdeal.nD Cert.ProjIdeal.τ).loc Cert.ProjIdeal.main_v46_6) = v6 c
          ∧ r.2.mem ((c.tc : Thread Cert.ProjIdeal.nD Cert.ProjIdeal.τ).loc Cert.ProjIdeal.main_v46_7) = v7 c
          ∧ r.2.mem ((c.tc : Thread Cert.ProjIdeal.nD Cert.ProjIdeal.τ).loc Cert.ProjIdeal.main_v46_8) = v8 c
          ∧ r.2.mem ((c.tc : Thread Cert.ProjIdeal.nD Cert.ProjIdeal.τ).loc Cert.ProjIdeal.main_arg0) = m ((c.tc : Thread Cert.ProjIdeal.nD Cert.ProjIdeal.τ).loc Cert.ProjIdeal.main_arg0)
          ∧ r.2.mem ((c.tc : Thread Cert.ProjIdeal.nD Cert.ProjIdeal.τ).loc Cert.ProjIdeal.main_arg1) = m ((c.tc : Thread Cert.ProjIdeal.nD Cert.ProjIdeal.τ).loc Cert.ProjIdeal.main_arg1)
          ∧ r.2.mem ((c.tc : Thread Cert.ProjIdeal.nD Cert.ProjIdeal.τ).loc Cert.ProjIdeal.main_arg2) = m ((c.tc : Thread Cert.ProjIdeal.nD Cert.ProjIdeal.τ).loc Cert.ProjIdeal.main_arg2)
          ∧ r.2.mem ((c.tc : Thread Cert.ProjIdeal.nD Cert.ProjIdeal.τ).loc Cert.ProjIdeal.main_arg3) = m ((c.tc : Thread Cert.ProjIdeal.nD Cert.ProjIdeal.τ).loc Cert.ProjIdeal.main_arg3))
      ∧ θ_run (Cert.ProjRefIdeal.defs (F := Ideal)) (onTc (τ := Cert.ProjRefIdeal.τ) (Cert.ProjRefIdeal.main (F := Ideal))) ⟨m', fun _ => 0, g'⟩ (fun r => ∀ c : Dev Cert.ProjRefIdeal.nD,
          r.2.mem ((c.tc : Thread Cert.ProjRefIdeal.nD Cert.ProjRefIdeal.τ).loc Cert.ProjRefIdeal.main_v168) = v0 c
          ∧ r.2.mem ((c.tc : Thread Cert.ProjRefIdeal.nD Cert.ProjRefIdeal.τ).loc Cert.ProjRefIdeal.main_v169) = v1 c
          ∧ r.2.mem ((c.tc : Thread Cert.ProjRefIdeal.nD Cert.ProjRefIdeal.τ).loc Cert.ProjRefIdeal.main_v164) = v2 c
          ∧ r.2.mem ((c.tc : Thread Cert.ProjRefIdeal.nD Cert.ProjRefIdeal.τ).loc Cert.ProjRefIdeal.main_v165) = v3 c
          ∧ r.2.mem ((c.tc : Thread Cert.ProjRefIdeal.nD Cert.ProjRefIdeal.τ).loc Cert.ProjRefIdeal.main_v170) = v4 c
          ∧ r.2.mem ((c.tc : Thread Cert.ProjRefIdeal.nD Cert.ProjRefIdeal.τ).loc Cert.ProjRefIdeal.main_v171) = v5 c
          ∧ r.2.mem ((c.tc : Thread Cert.ProjRefIdeal.nD Cert.ProjRefIdeal.τ).loc Cert.ProjRefIdeal.main_v172) = v6 c
          ∧ r.2.mem ((c.tc : Thread Cert.ProjRefIdeal.nD Cert.ProjRefIdeal.τ).loc Cert.ProjRefIdeal.main_v173) = v7 c
          ∧ r.2.mem ((c.tc : Thread Cert.ProjRefIdeal.nD Cert.ProjRefIdeal.τ).loc Cert.ProjRefIdeal.main_v167) = v8 c
          ∧ r.2.mem ((c.tc : Thread Cert.ProjRefIdeal.nD Cert.ProjRefIdeal.τ).loc Cert.ProjRefIdeal.main_arg0) = m' ((c.tc : Thread Cert.ProjRefIdeal.nD Cert.ProjRefIdeal.τ).loc Cert.ProjRefIdeal.main_arg0)
          ∧ r.2.mem ((c.tc : Thread Cert.ProjRefIdeal.nD Cert.ProjRefIdeal.τ).loc Cert.ProjRefIdeal.main_arg1) = m' ((c.tc : Thread Cert.ProjRefIdeal.nD Cert.ProjRefIdeal.τ).loc Cert.ProjRefIdeal.main_arg1)
          ∧ r.2.mem ((c.tc : Thread Cert.ProjRefIdeal.nD Cert.ProjRefIdeal.τ).loc Cert.ProjRefIdeal.main_arg2) = m' ((c.tc : Thread Cert.ProjRefIdeal.nD Cert.ProjRefIdeal.τ).loc Cert.ProjRefIdeal.main_arg2)
          ∧ r.2.mem ((c.tc : Thread Cert.ProjRefIdeal.nD Cert.ProjRefIdeal.τ).loc Cert.ProjRefIdeal.main_arg3) = m' ((c.tc : Thread Cert.ProjRefIdeal.nD Cert.ProjRefIdeal.τ).loc Cert.ProjRefIdeal.main_arg3))

def preserves_Rwkv_RwkvIdeal : Prop :=
  True

def preserves_Compress_CompressIdeal : Prop :=
  True

def Claim : Prop :=
  ∃ (hFfn : Cert.Ffn.Facts) (hFfnIdeal : Cert.FfnIdeal.Facts) (hFfnRefIdeal : Cert.FfnRefIdeal.Facts) (hProj : Cert.Proj.Facts) (hProjIdeal : Cert.ProjIdeal.Facts) (hProjRefIdeal : Cert.ProjRefIdeal.Facts) (hRwkv : Cert.Rwkv.Facts) (hRwkvIdeal : Cert.RwkvIdeal.Facts) (hCompress : Cert.Compress.Facts) (hCompressIdeal : Cert.CompressIdeal.Facts),
    quiescent_Ffn (hFfn := hFfn)
    ∧ quiescent_FfnIdeal (hFfnIdeal := hFfnIdeal)
    ∧ quiescent_FfnRefIdeal (hFfnRefIdeal := hFfnRefIdeal)
    ∧ quiescent_Proj (hProj := hProj)
    ∧ quiescent_ProjIdeal (hProjIdeal := hProjIdeal)
    ∧ quiescent_ProjRefIdeal (hProjRefIdeal := hProjRefIdeal)
    ∧ quiescent_Rwkv (hRwkv := hRwkv)
    ∧ quiescent_RwkvIdeal (hRwkvIdeal := hRwkvIdeal)
    ∧ quiescent_Compress (hCompress := hCompress)
    ∧ quiescent_CompressIdeal (hCompressIdeal := hCompressIdeal)
    ∧ preserves_Ffn_FfnIdeal
    ∧ algebraic_FfnIdeal_FfnRefIdeal (hFfnIdeal := hFfnIdeal) (hFfnRefIdeal := hFfnRefIdeal)
    ∧ preserves_Proj_ProjIdeal
    ∧ algebraic_ProjIdeal_ProjRefIdeal (hProjIdeal := hProjIdeal) (hProjRefIdeal := hProjRefIdeal)
    ∧ preserves_Rwkv_RwkvIdeal
    ∧ preserves_Compress_CompressIdeal
-- ==== Ffn.lean ====
abbrev S8x4096x1024 : Shape := ⟨3, ![8, 4096, 1024]⟩
abbrev S1x1024x1024 : Shape := ⟨3, ![1, 1024, 1024]⟩
abbrev S1x1024 : Shape := ⟨2, ![1, 1024]⟩
abbrev S1x1024x2816 : Shape := ⟨3, ![1, 1024, 2816]⟩
abbrev S1x2816x1024 : Shape := ⟨3, ![1, 2816, 1024]⟩
abbrev S1024 : Shape := ⟨1, ![1024]⟩
abbrev S32768x1024 : Shape := ⟨2, ![32768, 1024]⟩
abbrev S32768x512 : Shape := ⟨2, ![32768, 512]⟩
abbrev S32768x2x4x64 : Shape := ⟨4, ![32768, 2, 4, 64]⟩
abbrev S32768x4x2x64 : Shape := ⟨4, ![32768, 4, 2, 64]⟩
abbrev S1024x1024 : Shape := ⟨2, ![1024, 1024]⟩
abbrev S1024x2816 : Shape := ⟨2, ![1024, 2816]⟩
abbrev S2816x1024 : Shape := ⟨2, ![2816, 1024]⟩
abbrev S512x1024 : Shape := ⟨2, ![512, 1024]⟩
abbrev S2x4x64x1024 : Shape := ⟨4, ![2, 4, 64, 1024]⟩
abbrev S4x2x64x1024 : Shape := ⟨4, ![4, 2, 64, 1024]⟩
abbrev S1024x512 : Shape := ⟨2, ![1024, 512]⟩
abbrev S1024x256 : Shape := ⟨2, ![1024, 256]⟩
abbrev S256x1024 : Shape := ⟨2, ![256, 1024]⟩
abbrev S1024x1 : Shape := ⟨2, ![1024, 1]⟩

abbrev nBuf : Space → Nat
  | .hbm => 35
  | .vmem => 21
  | .smem => 0
  | _ => 0

abbrev bufTy : (tb : Table) → Fin (tcTables nBuf tb) → BufTy
  | .hbm, ⟨0, _⟩ => ⟨S8x4096x1024, .f32⟩
  | .hbm, ⟨1, _⟩ => ⟨S8x4096x1024, .f32⟩
  | .hbm, ⟨2, _⟩ => ⟨S1x1024x1024, .f32⟩
  | .hbm, ⟨3, _⟩ => ⟨S1x1024, .f32⟩
  | .hbm, ⟨4, _⟩ => ⟨S1x1024x2816, .f32⟩
  | .hbm, ⟨5, _⟩ => ⟨S1x1024x2816, .f32⟩
  | .hbm, ⟨6, _⟩ => ⟨S1x2816x1024, .f32⟩
  | .hbm, ⟨7, _⟩ => ⟨S1024, .f32⟩
  | .hbm, ⟨8, _⟩ => ⟨S32768x1024, .f32⟩
  | .hbm, ⟨9, _⟩ => ⟨S32768x1024, .f32⟩
  | .hbm, ⟨10, _⟩ => ⟨S32768x512, .f32⟩
  | .hbm, ⟨11, _⟩ => ⟨S32768x512, .bf16⟩
  | .hbm, ⟨12, _⟩ => ⟨S32768x512, .f32⟩
  | .hbm, ⟨13, _⟩ => ⟨S32768x2x4x64, .f32⟩
  | .hbm, ⟨14, _⟩ => ⟨S32768x4x2x64, .f32⟩
  | .hbm, ⟨15, _⟩ => ⟨S32768x512, .f32⟩
  | .hbm, ⟨16, _⟩ => ⟨S32768x512, .bf16⟩
  | .hbm, ⟨17, _⟩ => ⟨S1024x1024, .f32⟩
  | .hbm, ⟨18, _⟩ => ⟨S1024, .f32⟩
  | .hbm, ⟨19, _⟩ => ⟨S1024x2816, .f32⟩
  | .hbm, ⟨20, _⟩ => ⟨S1024x2816, .f32⟩
  | .hbm, ⟨21, _⟩ => ⟨S2816x1024, .f32⟩
  | .hbm, ⟨22, _⟩ => ⟨S512x1024, .f32⟩
  | .hbm, ⟨23, _⟩ => ⟨S512x1024, .bf16⟩
  | .hbm, ⟨24, _⟩ => ⟨S512x1024, .f32⟩
  | .hbm, ⟨25, _⟩ => ⟨S2x4x64x1024, .f32⟩
  | .hbm, ⟨26, _⟩ => ⟨S4x2x64x1024, .f32⟩
  | .hbm, ⟨27, _⟩ => ⟨S512x1024, .f32⟩
  | .hbm, ⟨28, _⟩ => ⟨S512x1024, .bf16⟩
  | .hbm, ⟨29, _⟩ => ⟨S1x1024, .f32⟩
  | .hbm, ⟨30, _⟩ => ⟨S1024x2816, .bf16⟩
  | .hbm, ⟨31, _⟩ => ⟨S1024x2816, .bf16⟩
  | .hbm, ⟨32, _⟩ => ⟨S2816x1024, .bf16⟩
  | .hbm, ⟨33, _⟩ => ⟨S1x1024, .f32⟩
  | .hbm, ⟨34, _⟩ => ⟨S32768x1024, .f32⟩
  | .local _ .vmem, ⟨0, _⟩ => ⟨S1024x1024, .f32⟩
  | .local _ .vmem, ⟨1, _⟩ => ⟨S1024x1024, .f32⟩
  | .local _ .vmem, ⟨2, _⟩ => ⟨S1024x512, .bf16⟩
  | .local _ .vmem, ⟨3, _⟩ => ⟨S1024x512, .bf16⟩
  | .local _ .vmem, ⟨4, _⟩ => ⟨S1024x512, .bf16⟩
  | .local _ .vmem, ⟨5, _⟩ => ⟨S1024x512, .bf16⟩
  | .local _ .vmem, ⟨6, _⟩ => ⟨S512x1024, .bf16⟩
  | .local _ .vmem, ⟨7, _⟩ => ⟨S512x1024, .bf16⟩
  | .local _ .vmem, ⟨8, _⟩ => ⟨S1x1024, .f32⟩
  | .local _ .vmem, ⟨9, _⟩ => ⟨S1024x256, .bf16⟩
  | .local _ .vmem, ⟨10, _⟩ => ⟨S1024x256, .bf16⟩
  | .local _ .vmem, ⟨11, _⟩ => ⟨S1024x256, .bf16⟩
  | .local _ .vmem, ⟨12, _⟩ => ⟨S1024x256, .bf16⟩
  | .local _ .vmem, ⟨13, _⟩ => ⟨S256x1024, .bf16⟩
  | .local _ .vmem, ⟨14, _⟩ => ⟨S256x1024, .bf16⟩
  | .local _ .vmem, ⟨15, _⟩ => ⟨S1x1024, .f32⟩
  | .local _ .vmem, ⟨16, _⟩ => ⟨S1024x1024, .f32⟩
  | .local _ .vmem, ⟨17, _⟩ => ⟨S1024x1024, .f32⟩
  | .local _ .vmem, ⟨18, _⟩ => ⟨S1024x1024, .f32⟩
  | .local _ .vmem, ⟨19, _⟩ => ⟨S1024x1024, .bf16⟩
  | .local _ .vmem, ⟨20, _⟩ => ⟨S1024x1024, .f32⟩
  | _, _ => ⟨S8x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg8_1 : Ref sig .tc := ⟨.vmem, 14, rfl⟩
abbrev cc0_stg9_0 : Ref sig .tc := ⟨.vmem, 15, rfl⟩
abbrev cc0_stg10_0 : Ref sig .tc := ⟨.vmem, 16, rfl⟩
abbrev cc0_stg10_1 : Ref sig .tc := ⟨.vmem, 17, rfl⟩
abbrev cc0_scratch0 : Ref sig .tc := ⟨.vmem, 18, rfl⟩
abbrev cc0_scratch1 : Ref sig .tc := ⟨.vmem, 19, rfl⟩
abbrev cc0_scratch2 : Ref sig .tc := ⟨.vmem, 20, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem6_1 : DmaSem sig := 10
abbrev cc0_sem7_0 : DmaSem sig := 11
abbrev cc0_sem7_1 : DmaSem sig := 12
abbrev cc0_sem8_0 : DmaSem sig := 13
abbrev cc0_sem8_1 : DmaSem sig := 14
abbrev cc0_sem9_0 : DmaSem sig := 15
abbrev cc0_sem10_0 : DmaSem sig := 16
abbrev cc0_sem10_1 : DmaSem sig := 17

abbrev nD : Nat := 1
abbrev τ : Topo := Topo.v7x

variable {F : FTy → Type} [FloatOps F]

abbrev grid0 : Pipeline.Grid := ⟨2, ![32, 11], ![false, false]⟩

def k0_cond2 (i : grid0.Coords) : BitVec 1 :=
  let arg1 : BitVec 32 := BitVec.ofNat 32 (i 1).val
  let c10_i32 : BitVec 32 := 10#32
  let v22 : BitVec 1 := Scalar.cmpi .eq arg1 c10_i32
  let v23 : BitVec 32 := Scalar.extui v22
  let c0_i32_14 : BitVec 32 := 0#32
  let v24 : BitVec 1 := Scalar.cmpi .ne v23 c0_i32_14
  v24

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1024x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 1 → Memref sig .tc .vmem S512x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S512x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S1024x256 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![false, true]

abbrev stage0_7 : Fin 2 → Memref sig .tc .vmem S1024x256 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![false, true]

abbrev stage0_8 : Fin 2 → Memref sig .tc .vmem S256x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![false, true]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 2 → Memref sig .tc .vmem S1024x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, false]
-- ==== FfnRefIdeal.lean ====
abbrev S8x4096x1024 : Shape := ⟨3, ![8, 4096, 1024]⟩
abbrev S1x1024x1024 : Shape := ⟨3, ![1, 1024, 1024]⟩
abbrev S1x1024 : Shape := ⟨2, ![1, 1024]⟩
abbrev S1x1024x2816 : Shape := ⟨3, ![1, 1024, 2816]⟩
abbrev S1x2816x1024 : Shape := ⟨3, ![1, 2816, 1024]⟩
abbrev S1024 : Shape := ⟨1, ![1024]⟩
abbrev S1024x1024 : Shape := ⟨2, ![1024, 1024]⟩
abbrev S_ : Shape := ⟨0, ![]⟩
abbrev S8x4096 : Shape := ⟨2, ![8, 4096]⟩
abbrev S8x4096x1 : Shape := ⟨3, ![8, 4096, 1]⟩
abbrev S1x1x1024 : Shape := ⟨3, ![1, 1, 1024]⟩
abbrev S1024x2816 : Shape := ⟨2, ![1024, 2816]⟩
abbrev S8x4096x2816 : Shape := ⟨3, ![8, 4096, 2816]⟩
abbrev S2816x1024 : Shape := ⟨2, ![2816, 1024]⟩
abbrev S32768x1024 : Shape := ⟨2, ![32768, 1024]⟩

abbrev nBuf : Space → Nat
  | .hbm => 62
  | .vmem => 0
  | .smem => 0
  | _ => 0

abbrev bufTy : (tb : Table) → Fin (tcTables nBuf tb) → BufTy
  | .hbm, ⟨0, _⟩ => ⟨S8x4096x1024, .f32⟩
  | .hbm, ⟨1, _⟩ => ⟨S8x4096x1024, .f32⟩
  | .hbm, ⟨2, _⟩ => ⟨S1x1024x1024, .f32⟩
  | .hbm, ⟨3, _⟩ => ⟨S1x1024, .f32⟩
  | .hbm, ⟨4, _⟩ => ⟨S1x1024x2816, .f32⟩
  | .hbm, ⟨5, _⟩ => ⟨S1x1024x2816, .f32⟩
  | .hbm, ⟨6, _⟩ => ⟨S1x2816x1024, .f32⟩
  | .hbm, ⟨7, _⟩ => ⟨S1024, .f32⟩
  | .hbm, ⟨8, _⟩ => ⟨S1024x1024, .f32⟩
  | .hbm, ⟨9, _⟩ => ⟨S8x4096x1024, .f32⟩
  | .hbm, ⟨10, _⟩ => ⟨S8x4096x1024, .f32⟩
  | .hbm, ⟨11, _⟩ => ⟨S1024, .f32⟩
  | .hbm, ⟨12, _⟩ => ⟨S8x4096x1024, .f32⟩
  | .hbm, ⟨13, _⟩ => ⟨S_, .f32⟩
  | .hbm, ⟨14, _⟩ => ⟨S8x4096, .f32⟩
  | .hbm, ⟨15, _⟩ => ⟨S8x4096x1, .f32⟩
  | .hbm, ⟨16, _⟩ => ⟨S_, .f32⟩
  | .hbm, ⟨17, _⟩ => ⟨S8x4096x1, .f32⟩
  | .hbm, ⟨18, _⟩ => ⟨S8x4096x1, .f32⟩
  | .hbm, ⟨19, _⟩ => ⟨S_, .f32⟩
  | .hbm, ⟨20, _⟩ => ⟨S8x4096x1, .f32⟩
  | .hbm, ⟨21, _⟩ => ⟨S8x4096x1, .f32⟩
  | .hbm, ⟨22, _⟩ => ⟨S8x4096x1, .f32⟩
  | .hbm, ⟨23, _⟩ => ⟨S8x4096x1024, .f32⟩
  | .hbm, ⟨24, _⟩ => ⟨S8x4096x1024, .f32⟩
  | .hbm, ⟨25, _⟩ => ⟨S1x1x1024, .f32⟩
  | .hbm, ⟨26, _⟩ => ⟨S8x4096x1024, .f32⟩
  | .hbm, ⟨27, _⟩ => ⟨S8x4096x1024, .f32⟩
  | .hbm, ⟨28, _⟩ => ⟨S1024x2816, .f32⟩
  | .hbm, ⟨29, _⟩ => ⟨S8x4096x2816, .f32⟩
  | .hbm, ⟨30, _⟩ => ⟨S8x4096x2816, .f32⟩
  | .hbm, ⟨31, _⟩ => ⟨S8x4096x2816, .f32⟩
  | .hbm, ⟨32, _⟩ => ⟨S_, .f32⟩
  | .hbm, ⟨33, _⟩ => ⟨S8x4096x2816, .f32⟩
  | .hbm, ⟨34, _⟩ => ⟨S8x4096x2816, .f32⟩
  | .hbm, ⟨35, _⟩ => ⟨S_, .f32⟩
  | .hbm, ⟨36, _⟩ => ⟨S8x4096x2816, .f32⟩
  | .hbm, ⟨37, _⟩ => ⟨S8x4096x2816, .f32⟩
  | .hbm, ⟨38, _⟩ => ⟨S8x4096x2816, .f32⟩
  | .hbm, ⟨39, _⟩ => ⟨S1024x2816, .f32⟩
  | .hbm, ⟨40, _⟩ => ⟨S8x4096x2816, .f32⟩
  | .hbm, ⟨41, _⟩ => ⟨S8x4096x2816, .f32⟩
  | .hbm, ⟨42, _⟩ => ⟨S2816x1024, .f32⟩
  | .hbm, ⟨43, _⟩ => ⟨S8x4096x1024, .f32⟩
  | .hbm, ⟨44, _⟩ => ⟨S8x4096x1024, .f32⟩
  | .hbm, ⟨45, _⟩ => ⟨S8x4096x1024, .f32⟩
  | .hbm, ⟨46, _⟩ => ⟨S_, .f32⟩
  | .hbm, ⟨47, _⟩ => ⟨S8x4096, .f32⟩
  | .hbm, ⟨48, _⟩ => ⟨S8x4096x1, .f32⟩
  | .hbm, ⟨49, _⟩ => ⟨S_, .f32⟩
  | .hbm, ⟨50, _⟩ => ⟨S8x4096x1, .f32⟩
  | .hbm, ⟨51, _⟩ => ⟨S8x4096x1, .f32⟩
  | .hbm, ⟨52, _⟩ => ⟨S_, .f32⟩
  | .hbm, ⟨53, _⟩ => ⟨S8x4096x1, .f32⟩
  | .hbm, ⟨54, _⟩ => ⟨S8x4096x1, .f32⟩
  | .hbm, ⟨55, _⟩ => ⟨S8x4096x1, .f32⟩
  | .hbm, ⟨56, _⟩ => ⟨S8x4096x1024, .f32⟩
  | .hbm, ⟨57, _⟩ => ⟨S8x4096x1024, .f32⟩
  | .hbm, ⟨58, _⟩ => ⟨S1x1x1024, .f32⟩
  | .hbm, ⟨59, _⟩ => ⟨S8x4096x1024, .f32⟩
  | .hbm, ⟨60, _⟩ => ⟨S8x4096x1024, .f32⟩
  | .hbm, ⟨61, _⟩ => ⟨S32768x1024, .f32⟩
  | _, _ => ⟨S8x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_cst : Ref sig .tc := ⟨.hbm, 13, rfl⟩
abbrev main_v5 : Ref sig .tc := ⟨.hbm, 14, rfl⟩
abbrev main_v6 : Ref sig .tc := ⟨.hbm, 15, rfl⟩
abbrev main_cst_0 : Ref sig .tc := ⟨.hbm, 16, rfl⟩
abbrev main_v7 : Ref sig .tc := ⟨.hbm, 17, rfl⟩
abbrev main_v8 : Ref sig .tc := ⟨.hbm, 18, rfl⟩
abbrev main_cst_1 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_call0_v0 : Ref sig .tc := ⟨.hbm, 30, rfl⟩
abbrev main_call0_v1 : Ref sig .tc := ⟨.hbm, 31, rfl⟩
abbrev main_call0_cst : Ref sig .tc := ⟨.hbm, 32, rfl⟩
abbrev main_call0_v2 : Ref sig .tc := ⟨.hbm, 33, rfl⟩
abbrev main_call0_v3 : Ref sig .tc := ⟨.hbm, 34, rfl⟩
abbrev main_call0_cst_0 : Ref sig .tc := ⟨.hbm, 35, rfl⟩
abbrev main_call0_v4 : Ref sig .tc := ⟨.hbm, 36, rfl⟩
abbrev main_call0_v5 : Ref sig .tc := ⟨.hbm, 37, rfl⟩
abbrev main_v19 : Ref sig .tc := ⟨.hbm, 38, rfl⟩
abbrev main_v20 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_cst_2 : Ref sig .tc := ⟨.hbm, 46, rfl⟩
abbrev main_v27 : Ref sig .tc := ⟨.hbm, 47, rfl⟩
abbrev main_v28 : Ref sig .tc := ⟨.hbm, 48, rfl⟩
abbrev main_cst_3 : Ref sig .tc := ⟨.hbm, 49, rfl⟩
abbrev main_v29 : Ref sig .tc := ⟨.hbm, 50, rfl⟩
abbrev main_v30 : Ref sig .tc := ⟨.hbm, 51, rfl⟩
abbrev main_cst_4 : Ref sig .tc := ⟨.hbm, 52, rfl⟩
abbrev main_v31 : Ref sig .tc := ⟨.hbm, 53, rfl⟩
abbrev main_v32 : Ref sig .tc := ⟨.hbm, 54, rfl⟩
abbrev main_v33 : Ref sig .tc := ⟨.hbm, 55, rfl⟩
abbrev main_v34 : Ref sig .tc := ⟨.hbm, 56, rfl⟩
abbrev main_v35 : Ref sig .tc := ⟨.hbm, 57, rfl⟩
abbrev main_v36 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩

abbrev nD : Nat := 1
abbrev τ : Topo := Topo.v7x

variable {F : FTy → Type} [FloatOps F]
-- ==== Proj.lean ====
abbrev S8x4096x1024 : Shape := ⟨3, ![8, 4096, 1024]⟩
abbrev S8x4096 : Shape := ⟨2, ![8, 4096]⟩
abbrev S1x1024 : Shape := ⟨2, ![1, 1024]⟩
abbrev S1x1024x3096 : Shape := ⟨3, ![1, 1024, 3096]⟩
abbrev S32768x1024 : Shape := ⟨2, ![32768, 1024]⟩
abbrev S1024 : Shape := ⟨1, ![1024]⟩
abbrev S1024x3096 : Shape := ⟨2, ![1024, 3096]⟩
abbrev S1024x1792 : Shape := ⟨2, ![1024, 1792]⟩
abbrev S1024x512 : Shape := ⟨2, ![1024, 512]⟩
abbrev S1024x2x4x64 : Shape := ⟨4, ![1024, 2, 4, 64]⟩
abbrev S_ : Shape := ⟨0, ![]⟩
abbrev S2 : Shape := ⟨1, ![2]⟩
abbrev S1x2x1x1 : Shape := ⟨4, ![1, 2, 1, 1]⟩
abbrev S1024x2x4x1x64 : Shape := ⟨5, ![1024, 2, 4, 1, 64]⟩
abbrev S1024x2x4x2x64 : Shape := ⟨5, ![1024, 2, 4, 2, 64]⟩
abbrev S1024x1024 : Shape := ⟨2, ![1024, 1024]⟩
abbrev S1024x768 : Shape := ⟨2, ![1024, 768]⟩
abbrev S1024x24 : Shape := ⟨2, ![1024, 24]⟩
abbrev S1024x128 : Shape := ⟨2, ![1024, 128]⟩
abbrev S1024x3712 : Shape := ⟨2, ![1024, 3712]⟩
abbrev S32768 : Shape := ⟨1, ![32768]⟩
abbrev S32 : Shape := ⟨1, ![32]⟩
abbrev S1x32 : Shape := ⟨2, ![1, 32]⟩
abbrev S4x32 : Shape := ⟨2, ![4, 32]⟩
abbrev S128 : Shape := ⟨1, ![128]⟩
abbrev S1x128 : Shape := ⟨2, ![1, 128]⟩
abbrev S32768x1 : Shape := ⟨2, ![32768, 1]⟩
abbrev S32768x1792 : Shape := ⟨2, ![32768, 1792]⟩
abbrev S2048x2048 : Shape := ⟨2, ![2048, 2048]⟩
abbrev S32768x128 : Shape := ⟨2, ![32768, 128]⟩
abbrev S1024x1 : Shape := ⟨2, ![1024, 1]⟩
abbrev S64x2048 : Shape := ⟨2, ![64, 2048]⟩
abbrev S2x1024x128 : Shape := ⟨3, ![2, 1024, 128]⟩
abbrev S1024x256 : Shape := ⟨2, ![1024, 256]⟩
abbrev S1x1024x128 : Shape := ⟨3, ![1, 1024, 128]⟩
abbrev S1x64x128 : Shape := ⟨3, ![1, 64, 128]⟩
abbrev S64x128 : Shape := ⟨2, ![64, 128]⟩

abbrev nBuf : Space → Nat
  | .hbm => 94
  | .vmem => 29
  | .smem => 0
  | _ => 0

abbrev bufTy : (tb : Table) → Fin (tcTables nBuf tb) → BufTy
  | .hbm, ⟨0, _⟩ => ⟨S8x4096x1024, .f32⟩
  | .hbm, ⟨1, _⟩ => ⟨S8x4096, .i32⟩
  | .hbm, ⟨2, _⟩ => ⟨S1x1024, .f32⟩
  | .hbm, ⟨3, _⟩ => ⟨S1x1024x3096, .f32⟩
  | .hbm, ⟨4, _⟩ => ⟨S32768x1024, .f32⟩
  | .hbm, ⟨5, _⟩ => ⟨S1024, .f32⟩
  | .hbm, ⟨6, _⟩ => ⟨S1024x3096, .f32⟩
  | .hbm, ⟨7, _⟩ => ⟨S1024x1792, .f32⟩
  | .hbm, ⟨8, _⟩ => ⟨S1024x512, .f32⟩
  | .hbm, ⟨9, _⟩ => ⟨S1024x2x4x64, .f32⟩
  | .hbm, ⟨10, _⟩ => ⟨S_, .f32⟩
  | .hbm, ⟨11, _⟩ => ⟨S1024x2x4x64, .f32⟩
  | .hbm, ⟨12, _⟩ => ⟨S2, .i32⟩
  | .hbm, ⟨13, _⟩ => ⟨S1x2x1x1, .i32⟩
  | .hbm, ⟨14, _⟩ => ⟨S_, .i32⟩
  | .hbm, ⟨15, _⟩ => ⟨S1x2x1x1, .i32⟩
  | .hbm, ⟨16, _⟩ => ⟨S1x2x1x1, .i1⟩
  | .hbm, ⟨17, _⟩ => ⟨S1024x2x4x64, .i1⟩
  | .hbm, ⟨18, _⟩ => ⟨S1024x2x4x64, .f32⟩
  | .hbm, ⟨19, _⟩ => ⟨S2, .i32⟩
  | .hbm, ⟨20, _⟩ => ⟨S1x2x1x1, .i32⟩
  | .hbm, ⟨21, _⟩ => ⟨S_, .i32⟩
  | .hbm, ⟨22, _⟩ => ⟨S1x2x1x1, .i32⟩
  | .hbm, ⟨23, _⟩ => ⟨S1x2x1x1, .i1⟩
  | .hbm, ⟨24, _⟩ => ⟨S1024x2x4x64, .i1⟩
  | .hbm, ⟨25, _⟩ => ⟨S1024x2x4x64, .f32⟩
  | .hbm, ⟨26, _⟩ => ⟨S1024x2x4x1x64, .f32⟩
  | .hbm, ⟨27, _⟩ => ⟨S1024x2x4x1x64, .f32⟩
  | .hbm, ⟨28, _⟩ => ⟨S1024x2x4x2x64, .f32⟩
  | .hbm, ⟨29, _⟩ => ⟨S1024x1024, .f32⟩
  | .hbm, ⟨30, _⟩ => ⟨S1024x768, .f32⟩
  | .hbm, ⟨31, _⟩ => ⟨S1024x24, .f32⟩
  | .hbm, ⟨32, _⟩ => ⟨S_, .i32⟩
  | .hbm, ⟨33, _⟩ => ⟨S_, .f32⟩
  | .hbm, ⟨34, _⟩ => ⟨S1024x128, .f32⟩
  | .hbm, ⟨35, _⟩ => ⟨S1024x3712, .f32⟩
  | .hbm, ⟨36, _⟩ => ⟨S1024x3712, .bf16⟩
  | .hbm, ⟨37, _⟩ => ⟨S32768, .i32⟩
  | .hbm, ⟨38, _⟩ => ⟨S32, .f32⟩
  | .hbm, ⟨39, _⟩ => ⟨S32, .f32⟩
  | .hbm, ⟨40, _⟩ => ⟨S_, .f32⟩
  | .hbm, ⟨41, _⟩ => ⟨S32, .f32⟩
  | .hbm, ⟨42, _⟩ => ⟨S32, .f32⟩
  | .hbm, ⟨43, _⟩ => ⟨S_, .f32⟩
  | .hbm, ⟨44, _⟩ => ⟨S32, .f32⟩
  | .hbm, ⟨45, _⟩ => ⟨S32, .f32⟩
  | .hbm, ⟨46, _⟩ => ⟨S1x32, .f32⟩
  | .hbm, ⟨47, _⟩ => ⟨S4x32, .f32⟩
  | .hbm, ⟨48, _⟩ => ⟨S128, .f32⟩
  | .hbm, ⟨49, _⟩ => ⟨S1x128, .f32⟩
  | .hbm, ⟨50, _⟩ => ⟨S128, .i32⟩
  | .hbm, ⟨51, _⟩ => ⟨S_, .i32⟩
  | .hbm, ⟨52, _⟩ => ⟨S_, .i32⟩
  | .hbm, ⟨53, _⟩ => ⟨S_, .i32⟩
  | .hbm, ⟨54, _⟩ => ⟨S_, .i1⟩
  | .hbm, ⟨55, _⟩ => ⟨S_, .i32⟩
  | .hbm, ⟨56, _⟩ => ⟨S_, .i32⟩
  | .hbm, ⟨57, _⟩ => ⟨S128, .i32⟩
  | .hbm, ⟨58, _⟩ => ⟨S128, .i32⟩
  | .hbm, ⟨59, _⟩ => ⟨S_, .i32⟩
  | .hbm, ⟨60, _⟩ => ⟨S128, .i32⟩
  | .hbm, ⟨61, _⟩ => ⟨S128, .i1⟩
  | .hbm, ⟨62, _⟩ => ⟨S_, .i32⟩
  | .hbm, ⟨63, _⟩ => ⟨S128, .i32⟩
  | .hbm, ⟨64, _⟩ => ⟨S128, .i1⟩
  | .hbm, ⟨65, _⟩ => ⟨S_, .i32⟩
  | .hbm, ⟨66, _⟩ => ⟨S_, .i1⟩
  | .hbm, ⟨67, _⟩ => ⟨S128, .i1⟩
  | .hbm, ⟨68, _⟩ => ⟨S128, .i1⟩
  | .hbm, ⟨69, _⟩ => ⟨S128, .i1⟩
  | .hbm, ⟨70, _⟩ => ⟨S128, .i32⟩
  | .hbm, ⟨71, _⟩ => ⟨S128, .i32⟩
  | .hbm, ⟨72, _⟩ => ⟨S128, .i32⟩
  | .hbm, ⟨73, _⟩ => ⟨S_, .i32⟩
  | .hbm, ⟨74, _⟩ => ⟨S128, .i32⟩
  | .hbm, ⟨75, _⟩ => ⟨S128, .i1⟩
  | .hbm, ⟨76, _⟩ => ⟨S_, .f32⟩
  | .hbm, ⟨77, _⟩ => ⟨S_, .f32⟩
  | .hbm, ⟨78, _⟩ => ⟨S128, .f32⟩
  | .hbm, ⟨79, _⟩ => ⟨S128, .f32⟩
  | .hbm, ⟨80, _⟩ => ⟨S128, .f32⟩
  | .hbm, ⟨81, _⟩ => ⟨S128, .f32⟩
  | .hbm, ⟨82, _⟩ => ⟨S1x128, .f32⟩
  | .hbm, ⟨83, _⟩ => ⟨S1x1024, .f32⟩
  | .hbm, ⟨84, _⟩ => ⟨S32768x1, .i32⟩
  | .hbm, ⟨85, _⟩ => ⟨S32768x1792, .f32⟩
  | .hbm, ⟨86, _⟩ => ⟨S32768x1024, .bf16⟩
  | .hbm, ⟨87, _⟩ => ⟨S2048x2048, .f32⟩
  | .hbm, ⟨88, _⟩ => ⟨S2048x2048, .f32⟩
  | .hbm, ⟨89, _⟩ => ⟨S32768x128, .bf16⟩
  | .hbm, ⟨90, _⟩ => ⟨S32768x128, .bf16⟩
  | .hbm, ⟨91, _⟩ => ⟨S32768x128, .bf16⟩
  | .hbm, ⟨92, _⟩ => ⟨S32768x128, .bf16⟩
  | .hbm, ⟨93, _⟩ => ⟨S32768x128, .f32⟩
  | .local _ .vmem, ⟨0, _⟩ => ⟨S1024x1024, .f32⟩
  | .local _ .vmem, ⟨1, _⟩ => ⟨S1024x1024, .f32⟩
  | .local _ .vmem, ⟨2, _⟩ => ⟨S1x1024, .f32⟩
  | .local _ .vmem, ⟨3, _⟩ => ⟨S1024x3712, .bf16⟩
  | .local _ .vmem, ⟨4, _⟩ => ⟨S1024x1, .i32⟩
  | .local _ .vmem, ⟨5, _⟩ => ⟨S1024x1, .i32⟩
  | .local _ .vmem, ⟨6, _⟩ => ⟨S1x128, .f32⟩
  | .local _ .vmem, ⟨7, _⟩ => ⟨S1x128, .f32⟩
  | .local _ .vmem, ⟨8, _⟩ => ⟨S1024x1792, .f32⟩
  | .local _ .vmem, ⟨9, _⟩ => ⟨S1024x1792, .f32⟩
  | .local _ .vmem, ⟨10, _⟩ => ⟨S1024x1024, .bf16⟩
  | .local _ .vmem, ⟨11, _⟩ => ⟨S1024x1024, .bf16⟩
  | .local _ .vmem, ⟨12, _⟩ => ⟨S64x2048, .f32⟩
  | .local _ .vmem, ⟨13, _⟩ => ⟨S64x2048, .f32⟩
  | .local _ .vmem, ⟨14, _⟩ => ⟨S64x2048, .f32⟩
  | .local _ .vmem, ⟨15, _⟩ => ⟨S64x2048, .f32⟩
  | .local _ .vmem, ⟨16, _⟩ => ⟨S1024x128, .bf16⟩
  | .local _ .vmem, ⟨17, _⟩ => ⟨S1024x128, .bf16⟩
  | .local _ .vmem, ⟨18, _⟩ => ⟨S1024x128, .bf16⟩
  | .local _ .vmem, ⟨19, _⟩ => ⟨S1024x128, .bf16⟩
  | .local _ .vmem, ⟨20, _⟩ => ⟨S1024x128, .bf16⟩
  | .local _ .vmem, ⟨21, _⟩ => ⟨S1024x128, .bf16⟩
  | .local _ .vmem, ⟨22, _⟩ => ⟨S1024x128, .bf16⟩
  | .local _ .vmem, ⟨23, _⟩ => ⟨S1024x128, .bf16⟩
  | .local _ .vmem, ⟨24, _⟩ => ⟨S1024x128, .f32⟩
  | .local _ .vmem, ⟨25, _⟩ => ⟨S1024x128, .f32⟩
  | .local _ .vmem, ⟨26, _⟩ => ⟨S1024x128, .f32⟩
  | .local _ .vmem, ⟨27, _⟩ => ⟨S1024x128, .f32⟩
  | .local _ .vmem, ⟨28, _⟩ => ⟨S2x1024x128, .f32⟩
  | _, _ => ⟨S8x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | _, _ => false

abbrev semScoped : Fin 0 → Bool
  | ⟨_, h⟩ => absurd h (Nat.not_lt_zero _)

abbrev dmaSemScoped : Fin 26 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | _ => false

abbrev sig : RefSig :=
  ofTc nBuf bufTy 0 26 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_cst : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_c : Ref sig .tc := ⟨.hbm, 14, rfl⟩
abbrev main_v9 : Ref sig .tc := ⟨.hbm, 15, rfl⟩
abbrev main_v10 : Ref sig .tc := ⟨.hbm, 16, rfl⟩
abbrev main_call0_v0 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_c_0 : Ref sig .tc := ⟨.hbm, 21, rfl⟩
abbrev main_v14 : Ref sig .tc := ⟨.hbm, 22, rfl⟩
abbrev main_v15 : Ref sig .tc := ⟨.hbm, 23, rfl⟩
abbrev main_call1_v0 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_c_1 : Ref sig .tc := ⟨.hbm, 32, rfl⟩
abbrev main_call2_v0 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_cst_2 : Ref sig .tc := ⟨.hbm, 40, rfl⟩
abbrev main_v29 : Ref sig .tc := ⟨.hbm, 41, rfl⟩
abbrev main_v30 : Ref sig .tc := ⟨.hbm, 42, rfl⟩
abbrev main_cst_3 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_c_4 : Ref sig .tc := ⟨.hbm, 51, rfl⟩
abbrev main_call3_v0 : Ref sig .tc := ⟨.hbm, 52, rfl⟩
abbrev main_call3_c : Ref sig .tc := ⟨.hbm, 53, rfl⟩
abbrev main_call3_v1 : Ref sig .tc := ⟨.hbm, 54, rfl⟩
abbrev main_call3_c_0 : Ref sig .tc := ⟨.hbm, 55, rfl⟩
abbrev main_call3_v2 : Ref sig .tc := ⟨.hbm, 56, rfl⟩
abbrev main_call3_v3 : Ref sig .tc := ⟨.hbm, 57, rfl⟩
abbrev main_call3_v4 : Ref sig .tc := ⟨.hbm, 58, rfl⟩
abbrev main_call3_c_1 : Ref sig .tc := ⟨.hbm, 59, rfl⟩
abbrev main_call3_v5 : Ref sig .tc := ⟨.hbm, 60, rfl⟩
abbrev main_call3_v6 : Ref sig .tc := ⟨.hbm, 61, rfl⟩
abbrev main_call3_c_2 : Ref sig .tc := ⟨.hbm, 62, rfl⟩
abbrev main_call3_v7 : Ref sig .tc := ⟨.hbm, 63, rfl⟩
abbrev main_call3_v8 : Ref sig .tc := ⟨.hbm, 64, rfl⟩
abbrev main_call3_c_3 : Ref sig .tc := ⟨.hbm, 65, rfl⟩
abbrev main_call3_v9 : Ref sig .tc := ⟨.hbm, 66, rfl⟩
abbrev main_call3_v10 : Ref sig .tc := ⟨.hbm, 67, rfl⟩
abbrev main_call3_v11 : Ref sig .tc := ⟨.hbm, 68, rfl⟩
abbrev main_call3_v12 : Ref sig .tc := ⟨.hbm, 69, rfl⟩
abbrev main_call3_v13 : Ref sig .tc := ⟨.hbm, 70, rfl⟩
abbrev main_call3_v14 : Ref sig .tc := ⟨.hbm, 71, rfl⟩
abbrev main_v38 : Ref sig .tc := ⟨.hbm, 72, rfl⟩
abbrev main_c_5 : Ref sig .tc := ⟨.hbm, 73, rfl⟩
abbrev main_v39 : Ref sig .tc := ⟨.hbm, 74, rfl⟩
abbrev main_v40 : Ref sig .tc := ⟨.hbm, 75, rfl⟩
abbrev main_cst_6 : Ref sig .tc := ⟨.hbm, 76, rfl⟩
abbrev main_cst_7 : Ref sig .tc := ⟨.hbm, 77, rfl⟩
abbrev main_call4_v0 : Ref sig .tc := ⟨.hbm, 78, rfl⟩
abbrev main_call4_v1 : Ref sig .tc := ⟨.hbm, 79, rfl⟩
abbrev main_v41 : Ref sig .tc := ⟨.hbm, 80, rfl⟩
abbrev main_v42 : Ref sig .tc := ⟨.hbm, 81, rfl⟩
abbrev main_v43 : Ref sig .tc := ⟨.hbm, 82, rfl⟩
abbrev main_v44 : Ref sig .tc := ⟨.hbm, 83, rfl⟩
abbrev main_v45 : Ref sig .tc := ⟨.hbm, 84, rfl⟩
abbrev main_v46_0 : Ref sig .tc := ⟨.hbm, 85, rfl⟩
abbrev main_v46_1 : Ref sig .tc := ⟨.hbm, 86, rfl⟩
abbrev main_v46_2 : Ref sig .tc := ⟨.hbm, 87, rfl⟩
abbrev main_v46_3 : Ref sig .tc := ⟨.hbm, 88, rfl⟩
abbrev main_v46_4 : Ref sig .tc := ⟨.hbm, 89, rfl⟩
abbrev main_v46_5 : Ref sig .tc := ⟨.hbm, 90, rfl⟩
abbrev main_v46_6 : Ref sig .tc := ⟨.hbm, 91, rfl⟩
abbrev main_v46_7 : Ref sig .tc := ⟨.hbm, 92, rfl⟩
abbrev main_v46_8 : Ref sig .tc := ⟨.hbm, 93, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_stg9_1 : Ref sig .tc := ⟨.vmem, 15, rfl⟩
abbrev cc0_stg10_0 : Ref sig .tc := ⟨.vmem, 16, rfl⟩
abbrev cc0_stg10_1 : Ref sig .tc := ⟨.vmem, 17, rfl⟩
abbrev cc0_stg11_0 : Ref sig .tc := ⟨.vmem, 18, rfl⟩
abbrev cc0_stg11_1 : Ref sig .tc := ⟨.vmem, 19, rfl⟩
abbrev cc0_stg12_0 : Ref sig .tc := ⟨.vmem, 20, rfl⟩
abbrev cc0_stg12_1 : Ref sig .tc := ⟨.vmem, 21, rfl⟩
abbrev cc0_stg13_0 : Ref sig .tc := ⟨.vmem, 22, rfl⟩
abbrev cc0_stg13_1 : Ref sig .tc := ⟨.vmem, 23, rfl⟩
abbrev cc0_stg14_0 : Ref sig .tc := ⟨.vmem, 24, rfl⟩
abbrev cc0_stg14_1 : Ref sig .tc := ⟨.vmem, 25, rfl⟩
abbrev cc0_scratch0 : Ref sig .tc := ⟨.vmem, 26, rfl⟩
abbrev cc0_scratch1 : Ref sig .tc := ⟨.vmem, 27, rfl⟩
abbrev cc0_scratch2 : Ref sig .tc := ⟨.vmem, 28, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem5_0 : DmaSem sig := 7
abbrev cc0_sem6_0 : DmaSem sig := 8
abbrev cc0_sem6_1 : DmaSem sig := 9
abbrev cc0_sem7_0 : DmaSem sig := 10
abbrev cc0_sem7_1 : DmaSem sig := 11
abbrev cc0_sem8_0 : DmaSem sig := 12
abbrev cc0_sem8_1 : DmaSem sig := 13
abbrev cc0_sem9_0 : DmaSem sig := 14
abbrev cc0_sem9_1 : DmaSem sig := 15
abbrev cc0_sem10_0 : DmaSem sig := 16
abbrev cc0_sem10_1 : DmaSem sig := 17
abbrev cc0_sem11_0 : DmaSem sig := 18
abbrev cc0_sem11_1 : DmaSem sig := 19
abbrev cc0_sem12_0 : DmaSem sig := 20
abbrev cc0_sem12_1 : DmaSem sig := 21
abbrev cc0_sem13_0 : DmaSem sig := 22
abbrev cc0_sem13_1 : DmaSem sig := 23
abbrev cc0_sem14_0 : DmaSem sig := 24
abbrev cc0_sem14_1 : DmaSem sig := 25

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x3712 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S1024x1 .i32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S1024x1792 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1024x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S64x2048 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S64x2048 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S1024x128 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S1024x128 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S1024x128 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S1024x128 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S1024x128 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]
-- ==== ProjRefIdeal.lean ====
abbrev S8x4096x1024 : Shape := ⟨3, ![8, 4096, 1024]⟩
abbrev S8x4096 : Shape := ⟨2, ![8, 4096]⟩
abbrev S1x1024 : Shape := ⟨2, ![1, 1024]⟩
abbrev S1x1024x3096 : Shape := ⟨3, ![1, 1024, 3096]⟩
abbrev S1024 : Shape := ⟨1, ![1024]⟩
abbrev S_ : Shape := ⟨0, ![]⟩
abbrev S8x4096x1 : Shape := ⟨3, ![8, 4096, 1]⟩
abbrev S1x1x1024 : Shape := ⟨3, ![1, 1, 1024]⟩
abbrev S1024x3096 : Shape := ⟨2, ![1024, 3096]⟩
abbrev S8x4096x3096 : Shape := ⟨3, ![8, 4096, 3096]⟩
abbrev S8x4096x1792 : Shape := ⟨3, ![8, 4096, 1792]⟩
abbrev S8x4096x512 : Shape := ⟨3, ![8, 4096, 512]⟩
abbrev S8x4096x128 : Shape := ⟨3, ![8, 4096, 128]⟩
abbrev S8x4096x24 : Shape := ⟨3, ![8, 4096, 24]⟩
abbrev S8x4096x8x64 : Shape := ⟨4, ![8, 4096, 8, 64]⟩
abbrev S32 : Shape := ⟨1, ![32]⟩
abbrev S1x1x32 : Shape := ⟨3, ![1, 1, 32]⟩
abbrev S8x4096x32 : Shape := ⟨3, ![8, 4096, 32]⟩
abbrev S8x4096x1x32 : Shape := ⟨4, ![8, 4096, 1, 32]⟩
abbrev S8x4096x8x32 : Shape := ⟨4, ![8, 4096, 8, 32]⟩
abbrev S32768x2x4x64 : Shape := ⟨4, ![32768, 2, 4, 64]⟩
abbrev S32768x1x4x64 : Shape := ⟨4, ![32768, 1, 4, 64]⟩
abbrev S32768x4x64 : Shape := ⟨3, ![32768, 4, 64]⟩
abbrev S32768x4x128 : Shape := ⟨3, ![32768, 4, 128]⟩
abbrev S32768x1x4x128 : Shape := ⟨4, ![32768, 1, 4, 128]⟩
abbrev S32768x2x4x128 : Shape := ⟨4, ![32768, 2, 4, 128]⟩
abbrev S32768x1024 : Shape := ⟨2, ![32768, 1024]⟩
abbrev S8x4096x2x64 : Shape := ⟨4, ![8, 4096, 2, 64]⟩
abbrev S8x4096x2x32 : Shape := ⟨4, ![8, 4096, 2, 32]⟩
abbrev S32768x128 : Shape := ⟨2, ![32768, 128]⟩
abbrev S2048x2048 : Shape := ⟨2, ![2048, 2048]⟩
abbrev S32768x24 : Shape := ⟨2, ![32768, 24]⟩
abbrev S32768x1792 : Shape := ⟨2, ![32768, 1792]⟩

abbrev nBuf : Space → Nat
  | .hbm => 196
  | .vmem => 0
  | .smem => 0
  | _ => 0

abbrev hbmTy0_0 (i : Nat) : BufTy := match i % 128 with
  | 0 => ⟨S8x4096x1024, .f32⟩
  | 1 => ⟨S8x4096, .i32⟩
  | 2 => ⟨S1x1024, .f32⟩
  | 3 => ⟨S1x1024x3096, .f32⟩
  | 4 => ⟨S1024, .f32⟩
  | 5 => ⟨S8x4096x1024, .f32⟩
  | 6 => ⟨S_, .f32⟩
  | 7 => ⟨S8x4096, .f32⟩
  | 8 => ⟨S8x4096x1, .f32⟩
  | 9 => ⟨S_, .f32⟩
  | 10 => ⟨S8x4096x1, .f32⟩
  | 11 => ⟨S8x4096x1, .f32⟩
  | 12 => ⟨S_, .f32⟩
  | 13 => ⟨S8x4096x1, .f32⟩
  | 14 => ⟨S8x4096x1, .f32⟩
  | 15 => ⟨S8x4096x1, .f32⟩
  | 16 => ⟨S8x4096x1024, .f32⟩
  | 17 => ⟨S8x4096x1024, .f32⟩
  | 18 => ⟨S1x1x1024, .f32⟩
  | 19 => ⟨S8x4096x1024, .f32⟩
  | 20 => ⟨S8x4096x1024, .f32⟩
  | 21 => ⟨S1024x3096, .f32⟩
  | 22 => ⟨S8x4096x3096, .f32⟩
  | 23 => ⟨S8x4096x1792, .f32⟩
  | 24 => ⟨S8x4096x512, .f32⟩
  | 25 => ⟨S8x4096x128, .f32⟩
  | 26 => ⟨S8x4096x128, .f32⟩
  | 27 => ⟨S8x4096x128, .f32⟩
  | 28 => ⟨S8x4096x128, .f32⟩
  | 29 => ⟨S8x4096x128, .f32⟩
  | 30 => ⟨S8x4096x128, .f32⟩
  | 31 => ⟨S8x4096x24, .f32⟩
  | 32 => ⟨S8x4096x8x64, .f32⟩
  | 33 => ⟨S32, .f32⟩
  | 34 => ⟨S32, .f32⟩
  | 35 => ⟨S_, .f32⟩
  | 36 => ⟨S32, .f32⟩
  | 37 => ⟨S32, .f32⟩
  | 38 => ⟨S_, .f32⟩
  | 39 => ⟨S32, .f32⟩
  | 40 => ⟨S32, .f32⟩
  | 41 => ⟨S8x4096, .f32⟩
  | 42 => ⟨S8x4096x1, .f32⟩
  | 43 => ⟨S1x1x32, .f32⟩
  | 44 => ⟨S8x4096x32, .f32⟩
  | 45 => ⟨S8x4096x32, .f32⟩
  | 46 => ⟨S8x4096x32, .f32⟩
  | 47 => ⟨S8x4096x32, .f32⟩
  | 48 => ⟨S8x4096x1x32, .f32⟩
  | 49 => ⟨S8x4096x32, .f32⟩
  | 50 => ⟨S8x4096x1x32, .f32⟩
  | 51 => ⟨S8x4096x8x32, .f32⟩
  | 52 => ⟨S8x4096x8x32, .f32⟩
  | 53 => ⟨S8x4096x8x32, .f32⟩
  | 54 => ⟨S8x4096x8x32, .f32⟩
  | 55 => ⟨S8x4096x8x32, .f32⟩
  | 56 => ⟨S8x4096x8x32, .f32⟩
  | 57 => ⟨S8x4096x8x32, .f32⟩
  | 58 => ⟨S8x4096x8x32, .f32⟩
  | 59 => ⟨S8x4096x8x32, .f32⟩
  | 60 => ⟨S8x4096x8x32, .f32⟩
  | 61 => ⟨S8x4096x8x32, .f32⟩
  | 62 => ⟨S8x4096x8x32, .f32⟩
  | 63 => ⟨S8x4096x8x64, .f32⟩
  | 64 => ⟨S_, .f32⟩
  | 65 => ⟨S8x4096x8x64, .f32⟩
  | 66 => ⟨S8x4096x8x64, .f32⟩
  | 67 => ⟨S32768x2x4x64, .f32⟩
  | 68 => ⟨S32768x1x4x64, .f32⟩
  | 69 => ⟨S32768x4x64, .f32⟩
  | 70 => ⟨S_, .i32⟩
  | 71 => ⟨S_, .f32⟩
  | 72 => ⟨S32768x4x128, .f32⟩
  | 73 => ⟨S32768x1x4x64, .f32⟩
  | 74 => ⟨S32768x4x64, .f32⟩
  | 75 => ⟨S_, .i32⟩
  | 76 => ⟨S_, .f32⟩
  | 77 => ⟨S32768x4x128, .f32⟩
  | 78 => ⟨S32768x1x4x128, .f32⟩
  | 79 => ⟨S32768x1x4x128, .f32⟩
  | 80 => ⟨S32768x2x4x128, .f32⟩
  | 81 => ⟨S32768x1024, .f32⟩
  | 82 => ⟨S8x4096x2x64, .f32⟩
  | 83 => ⟨S32, .f32⟩
  | 84 => ⟨S32, .f32⟩
  | 85 => ⟨S_, .f32⟩
  | 86 => ⟨S32, .f32⟩
  | 87 => ⟨S32, .f32⟩
  | 88 => ⟨S_, .f32⟩
  | 89 => ⟨S32, .f32⟩
  | 90 => ⟨S32, .f32⟩
  | 91 => ⟨S8x4096, .f32⟩
  | 92 => ⟨S8x4096x1, .f32⟩
  | 93 => ⟨S1x1x32, .f32⟩
  | 94 => ⟨S8x4096x32, .f32⟩
  | 95 => ⟨S8x4096x32, .f32⟩
  | 96 => ⟨S8x4096x32, .f32⟩
  | 97 => ⟨S8x4096x32, .f32⟩
  | 98 => ⟨S8x4096x1x32, .f32⟩
  | 99 => ⟨S8x4096x32, .f32⟩
  | 100 => ⟨S8x4096x1x32, .f32⟩
  | 101 => ⟨S8x4096x2x32, .f32⟩
  | 102 => ⟨S8x4096x2x32, .f32⟩
  | 103 => ⟨S8x4096x2x32, .f32⟩
  | 104 => ⟨S8x4096x2x32, .f32⟩
  | 105 => ⟨S8x4096x2x32, .f32⟩
  | 106 => ⟨S8x4096x2x32, .f32⟩
  | 107 => ⟨S8x4096x2x32, .f32⟩
  | 108 => ⟨S8x4096x2x32, .f32⟩
  | 109 => ⟨S8x4096x2x32, .f32⟩
  | 110 => ⟨S8x4096x2x32, .f32⟩
  | 111 => ⟨S8x4096x2x32, .f32⟩
  | 112 => ⟨S8x4096x2x32, .f32⟩
  | 113 => ⟨S8x4096x2x64, .f32⟩
  | 114 => ⟨S32768x128, .f32⟩
  | 115 => ⟨S8x4096x2x64, .f32⟩
  | 116 => ⟨S32, .f32⟩
  | 117 => ⟨S32, .f32⟩
  | 118 => ⟨S_, .f32⟩
  | 119 => ⟨S32, .f32⟩
  | 120 => ⟨S32, .f32⟩
  | 121 => ⟨S_, .f32⟩
  | 122 => ⟨S32, .f32⟩
  | 123 => ⟨S32, .f32⟩
  | 124 => ⟨S8x4096, .f32⟩
  | 125 => ⟨S8x4096x1, .f32⟩
  | 126 => ⟨S1x1x32, .f32⟩
  | 127 => ⟨S8x4096x32, .f32⟩
  | _ => ⟨S8x4096x1024, .f32⟩

abbrev hbmTy0_1 (i : Nat) : BufTy := match i % 128 with
  | 0 => ⟨S8x4096x32, .f32⟩
  | 1 => ⟨S8x4096x32, .f32⟩
  | 2 => ⟨S8x4096x32, .f32⟩
  | 3 => ⟨S8x4096x1x32, .f32⟩
  | 4 => ⟨S8x4096x32, .f32⟩
  | 5 => ⟨S8x4096x1x32, .f32⟩
  | 6 => ⟨S8x4096x2x32, .f32⟩
  | 7 => ⟨S8x4096x2x32, .f32⟩
  | 8 => ⟨S8x4096x2x32, .f32⟩
  | 9 => ⟨S8x4096x2x32, .f32⟩
  | 10 => ⟨S8x4096x2x32, .f32⟩
  | 11 => ⟨S8x4096x2x32, .f32⟩
  | 12 => ⟨S8x4096x2x32, .f32⟩
  | 13 => ⟨S8x4096x2x32, .f32⟩
  | 14 => ⟨S8x4096x2x32, .f32⟩
  | 15 => ⟨S8x4096x2x32, .f32⟩
  | 16 => ⟨S8x4096x2x32, .f32⟩
  | 17 => ⟨S8x4096x2x32, .f32⟩
  | 18 => ⟨S8x4096x2x64, .f32⟩
  | 19 => ⟨S32768x128, .f32⟩
  | 20 => ⟨S8x4096x2x64, .f32⟩
  | 21 => ⟨S32, .f32⟩
  | 22 => ⟨S32, .f32⟩
  | 23 => ⟨S_, .f32⟩
  | 24 => ⟨S32, .f32⟩
  | 25 => ⟨S32, .f32⟩
  | 26 => ⟨S_, .f32⟩
  | 27 => ⟨S32, .f32⟩
  | 28 => ⟨S32, .f32⟩
  | 29 => ⟨S8x4096, .f32⟩
  | 30 => ⟨S8x4096x1, .f32⟩
  | 31 => ⟨S1x1x32, .f32⟩
  | 32 => ⟨S8x4096x32, .f32⟩
  | 33 => ⟨S8x4096x32, .f32⟩
  | 34 => ⟨S8x4096x32, .f32⟩
  | 35 => ⟨S8x4096x32, .f32⟩
  | 36 => ⟨S8x4096x1x32, .f32⟩
  | 37 => ⟨S8x4096x32, .f32⟩
  | 38 => ⟨S8x4096x1x32, .f32⟩
  | 39 => ⟨S8x4096x2x32, .f32⟩
  | 40 => ⟨S8x4096x2x32, .f32⟩
  | 41 => ⟨S8x4096x2x32, .f32⟩
  | 42 => ⟨S8x4096x2x32, .f32⟩
  | 43 => ⟨S8x4096x2x32, .f32⟩
  | 44 => ⟨S8x4096x2x32, .f32⟩
  | 45 => ⟨S8x4096x2x32, .f32⟩
  | 46 => ⟨S8x4096x2x32, .f32⟩
  | 47 => ⟨S8x4096x2x32, .f32⟩
  | 48 => ⟨S8x4096x2x32, .f32⟩
  | 49 => ⟨S8x4096x2x32, .f32⟩
  | 50 => ⟨S8x4096x2x32, .f32⟩
  | 51 => ⟨S8x4096x2x64, .f32⟩
  | 52 => ⟨S32768x128, .f32⟩
  | 53 => ⟨S32768x128, .f32⟩
  | 54 => ⟨S32768x128, .f32⟩
  | 55 => ⟨S32768x128, .f32⟩
  | 56 => ⟨S2048x2048, .f32⟩
  | 57 => ⟨S2048x2048, .f32⟩
  | 58 => ⟨S32768x24, .f32⟩
  | 59 => ⟨S_, .i32⟩
  | 60 => ⟨S_, .f32⟩
  | 61 => ⟨S32768x128, .f32⟩
  | 62 => ⟨S32768x1792, .f32⟩
  | 63 => ⟨S32768x1024, .bf16⟩
  | 64 => ⟨S32768x128, .bf16⟩
  | 65 => ⟨S32768x128, .bf16⟩
  | 66 => ⟨S32768x128, .bf16⟩
  | 67 => ⟨S32768x128, .bf16⟩
  | _ => ⟨S8x4096x1024, .f32⟩

abbrev hbmTy (i : Nat) : BufTy := match i / 128 with
  | 0 => hbmTy0_0 i
  | 1 => hbmTy0_1 i
  | _ => ⟨S8x4096x1024, .f32⟩

abbrev bufTy : (tb : Table) → Fin (tcTables nBuf tb) → BufTy
  | .hbm, ⟨i, _⟩ => hbmTy i
  | _, _ => ⟨S8x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_cst : Ref sig .tc := ⟨.hbm, 6, rfl⟩
abbrev main_v2 : Ref sig .tc := ⟨.hbm, 7, rfl⟩
abbrev main_v3 : Ref sig .tc := ⟨.hbm, 8, rfl⟩
abbrev main_cst_0 : Ref sig .tc := ⟨.hbm, 9, rfl⟩
abbrev main_v4 : Ref sig .tc := ⟨.hbm, 10, rfl⟩
abbrev main_v5 : Ref sig .tc := ⟨.hbm, 11, rfl⟩
abbrev main_cst_1 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_cst_2 : Ref sig .tc := ⟨.hbm, 35, rfl⟩
abbrev main_v28 : Ref sig .tc := ⟨.hbm, 36, rfl⟩
abbrev main_v29 : Ref sig .tc := ⟨.hbm, 37, rfl⟩
abbrev main_cst_3 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_v34 : Ref sig .tc := ⟨.hbm, 43, rfl⟩
abbrev main_v35 : Ref sig .tc := ⟨.hbm, 44, rfl⟩
abbrev main_v36 : Ref sig .tc := ⟨.hbm, 45, rfl⟩
abbrev main_v37 : Ref sig .tc := ⟨.hbm, 46, rfl⟩
abbrev main_v38 : Ref sig .tc := ⟨.hbm, 47, rfl⟩
abbrev main_v39 : Ref sig .tc := ⟨.hbm, 48, rfl⟩
abbrev main_v40 : Ref sig .tc := ⟨.hbm, 49, rfl⟩
abbrev main_v41 : Ref sig .tc := ⟨.hbm, 50, rfl⟩
abbrev main_v42 : Ref sig .tc := ⟨.hbm, 51, rfl⟩
abbrev main_v43 : Ref sig .tc := ⟨.hbm, 52, rfl⟩
abbrev main_v44 : Ref sig .tc := ⟨.hbm, 53, rfl⟩
abbrev main_v45 : Ref sig .tc := ⟨.hbm, 54, rfl⟩
abbrev main_v46 : Ref sig .tc := ⟨.hbm, 55, rfl⟩
abbrev main_v47 : Ref sig .tc := ⟨.hbm, 56, rfl⟩
abbrev main_v48 : Ref sig .tc := ⟨.hbm, 57, rfl⟩
abbrev main_v49 : Ref sig .tc := ⟨.hbm, 58, rfl⟩
abbrev main_v50 : Ref sig .tc := ⟨.hbm, 59, rfl⟩
abbrev main_v51 : Ref sig .tc := ⟨.hbm, 60, rfl⟩
abbrev main_v52 : Ref sig .tc := ⟨.hbm, 61, rfl⟩
abbrev main_v53 : Ref sig .tc := ⟨.hbm, 62, rfl⟩
abbrev main_v54 : Ref sig .tc := ⟨.hbm, 63, rfl⟩
abbrev main_cst_4 : Ref sig .tc := ⟨.hbm, 64, rfl⟩
abbrev main_v55 : Ref sig .tc := ⟨.hbm, 65, rfl⟩
abbrev main_v56 : Ref sig .tc := ⟨.hbm, 66, rfl⟩
abbrev main_v57 : Ref sig .tc := ⟨.hbm, 67, rfl⟩
abbrev main_v58 : Ref sig .tc := ⟨.hbm, 68, rfl⟩
abbrev main_v59 : Ref sig .tc := ⟨.hbm, 69, rfl⟩
abbrev main_c : Ref sig .tc := ⟨.hbm, 70, rfl⟩
abbrev main_call0_v0 : Ref sig .tc := ⟨.hbm, 71, rfl⟩
abbrev main_v60 : Ref sig .tc := ⟨.hbm, 72, rfl⟩
abbrev main_v61 : Ref sig .tc := ⟨.hbm, 73, rfl⟩
abbrev main_v62 : Ref sig .tc := ⟨.hbm, 74, rfl⟩
abbrev main_c_5 : Ref sig .tc := ⟨.hbm, 75, rfl⟩
abbrev main_call1_v0 : Ref sig .tc := ⟨.hbm, 76, rfl⟩
abbrev main_v63 : Ref sig .tc := ⟨.hbm, 77, rfl⟩
abbrev main_v64 : Ref sig .tc := ⟨.hbm, 78, rfl⟩
abbrev main_v65 : Ref sig .tc := ⟨.hbm, 79, rfl⟩
abbrev main_v66 : Ref sig .tc := ⟨.hbm, 80, rfl⟩
abbrev main_v67 : Ref sig .tc := ⟨.hbm, 81, rfl⟩
abbrev main_v68 : Ref sig .tc := ⟨.hbm, 82, rfl⟩
abbrev main_v69 : Ref sig .tc := ⟨.hbm, 83, rfl⟩
abbrev main_v70 : Ref sig .tc := ⟨.hbm, 84, rfl⟩
abbrev main_cst_6 : Ref sig .tc := ⟨.hbm, 85, rfl⟩
abbrev main_v71 : Ref sig .tc := ⟨.hbm, 86, rfl⟩
abbrev main_v72 : Ref sig .tc := ⟨.hbm, 87, rfl⟩
abbrev main_cst_7 : Ref sig .tc := ⟨.hbm, 88, rfl⟩
abbrev main_v73 : Ref sig .tc := ⟨.hbm, 89, rfl⟩
abbrev main_v74 : Ref sig .tc := ⟨.hbm, 90, rfl⟩
abbrev main_v75 : Ref sig .tc := ⟨.hbm, 91, rfl⟩
abbrev main_v76 : Ref sig .tc := ⟨.hbm, 92, rfl⟩
abbrev main_v77 : Ref sig .tc := ⟨.hbm, 93, rfl⟩
abbrev main_v78 : Ref sig .tc := ⟨.hbm, 94, rfl⟩
abbrev main_v79 : Ref sig .tc := ⟨.hbm, 95, rfl⟩
abbrev main_v80 : Ref sig .tc := ⟨.hbm, 96, rfl⟩
abbrev main_v81 : Ref sig .tc := ⟨.hbm, 97, rfl⟩
abbrev main_v82 : Ref sig .tc := ⟨.hbm, 98, rfl⟩
abbrev main_v83 : Ref sig .tc := ⟨.hbm, 99, rfl⟩
abbrev main_v84 : Ref sig .tc := ⟨.hbm, 100, rfl⟩
abbrev main_v85 : Ref sig .tc := ⟨.hbm, 101, rfl⟩
abbrev main_v86 : Ref sig .tc := ⟨.hbm, 102, rfl⟩
abbrev main_v87 : Ref sig .tc := ⟨.hbm, 103, rfl⟩
abbrev main_v88 : Ref sig .tc := ⟨.hbm, 104, rfl⟩
abbrev main_v89 : Ref sig .tc := ⟨.hbm, 105, rfl⟩
abbrev main_v90 : Ref sig .tc := ⟨.hbm, 106, rfl⟩
abbrev main_v91 : Ref sig .tc := ⟨.hbm, 107, rfl⟩
abbrev main_v92 : Ref sig .tc := ⟨.hbm, 108, rfl⟩
abbrev main_v93 : Ref sig .tc := ⟨.hbm, 109, rfl⟩
abbrev main_v94 : Ref sig .tc := ⟨.hbm, 110, rfl⟩
abbrev main_v95 : Ref sig .tc := ⟨.hbm, 111, rfl⟩
abbrev main_v96 : Ref sig .tc := ⟨.hbm, 112, rfl⟩
abbrev main_v97 : Ref sig .tc := ⟨.hbm, 113, rfl⟩
abbrev main_v98 : Ref sig .tc := ⟨.hbm, 114, rfl⟩
abbrev main_v99 : Ref sig .tc := ⟨.hbm, 115, rfl⟩
abbrev main_v100 : Ref sig .tc := ⟨.hbm, 116, rfl⟩
abbrev main_v101 : Ref sig .tc := ⟨.hbm, 117, rfl⟩
abbrev main_cst_8 : Ref sig .tc := ⟨.hbm, 118, rfl⟩
abbrev main_v102 : Ref sig .tc := ⟨.hbm, 119, rfl⟩
abbrev main_v103 : Ref sig .tc := ⟨.hbm, 120, rfl⟩
abbrev main_cst_9 : Ref sig .tc := ⟨.hbm, 121, rfl⟩
abbrev main_v104 : Ref sig .tc := ⟨.hbm, 122, rfl⟩
abbrev main_v105 : Ref sig .tc := ⟨.hbm, 123, rfl⟩
abbrev main_v106 : Ref sig .tc := ⟨.hbm, 124, rfl⟩
abbrev main_v107 : Ref sig .tc := ⟨.hbm, 125, rfl⟩
abbrev main_v108 : Ref sig .tc := ⟨.hbm, 126, rfl⟩
abbrev main_v109 : Ref sig .tc := ⟨.hbm, 127, rfl⟩
abbrev main_v110 : Ref sig .tc := ⟨.hbm, 128, rfl⟩
abbrev main_v111 : Ref sig .tc := ⟨.hbm, 129, rfl⟩
abbrev main_v112 : Ref sig .tc := ⟨.hbm, 130, rfl⟩
abbrev main_v113 : Ref sig .tc := ⟨.hbm, 131, rfl⟩
abbrev main_v114 : Ref sig .tc := ⟨.hbm, 132, rfl⟩
abbrev main_v115 : Ref sig .tc := ⟨.hbm, 133, rfl⟩
abbrev main_v116 : Ref sig .tc := ⟨.hbm, 134, rfl⟩
abbrev main_v117 : Ref sig .tc := ⟨.hbm, 135, rfl⟩
abbrev main_v118 : Ref sig .tc := ⟨.hbm, 136, rfl⟩
abbrev main_v119 : Ref sig .tc := ⟨.hbm, 137, rfl⟩
abbrev main_v120 : Ref sig .tc := ⟨.hbm, 138, rfl⟩
abbrev main_v121 : Ref sig .tc := ⟨.hbm, 139, rfl⟩
abbrev main_v122 : Ref sig .tc := ⟨.hbm, 140, rfl⟩
abbrev main_v123 : Ref sig .tc := ⟨.hbm, 141, rfl⟩
abbrev main_v124 : Ref sig .tc := ⟨.hbm, 142, rfl⟩
abbrev main_v125 : Ref sig .tc := ⟨.hbm, 143, rfl⟩
abbrev main_v126 : Ref sig .tc := ⟨.hbm, 144, rfl⟩
abbrev main_v127 : Ref sig .tc := ⟨.hbm, 145, rfl⟩
abbrev main_v128 : Ref sig .tc := ⟨.hbm, 146, rfl⟩
abbrev main_v129 : Ref sig .tc := ⟨.hbm, 147, rfl⟩
abbrev main_v130 : Ref sig .tc := ⟨.hbm, 148, rfl⟩
abbrev main_v131 : Ref sig .tc := ⟨.hbm, 149, rfl⟩
abbrev main_v132 : Ref sig .tc := ⟨.hbm, 150, rfl⟩
abbrev main_cst_10 : Ref sig .tc := ⟨.hbm, 151, rfl⟩
abbrev main_v133 : Ref sig .tc := ⟨.hbm, 152, rfl⟩
abbrev main_v134 : Ref sig .tc := ⟨.hbm, 153, rfl⟩
abbrev main_cst_11 : Ref sig .tc := ⟨.hbm, 154, rfl⟩
abbrev main_v135 : Ref sig .tc := ⟨.hbm, 155, rfl⟩
abbrev main_v136 : Ref sig .tc := ⟨.hbm, 156, rfl⟩
abbrev main_v137 : Ref sig .tc := ⟨.hbm, 157, rfl⟩
abbrev main_v138 : Ref sig .tc := ⟨.hbm, 158, rfl⟩
abbrev main_v139 : Ref sig .tc := ⟨.hbm, 159, rfl⟩
abbrev main_v140 : Ref sig .tc := ⟨.hbm, 160, rfl⟩
abbrev main_v141 : Ref sig .tc := ⟨.hbm, 161, rfl⟩
abbrev main_v142 : Ref sig .tc := ⟨.hbm, 162, rfl⟩
abbrev main_v143 : Ref sig .tc := ⟨.hbm, 163, rfl⟩
abbrev main_v144 : Ref sig .tc := ⟨.hbm, 164, rfl⟩
abbrev main_v145 : Ref sig .tc := ⟨.hbm, 165, rfl⟩
abbrev main_v146 : Ref sig .tc := ⟨.hbm, 166, rfl⟩
abbrev main_v147 : Ref sig .tc := ⟨.hbm, 167, rfl⟩
abbrev main_v148 : Ref sig .tc := ⟨.hbm, 168, rfl⟩
abbrev main_v149 : Ref sig .tc := ⟨.hbm, 169, rfl⟩
abbrev main_v150 : Ref sig .tc := ⟨.hbm, 170, rfl⟩
abbrev main_v151 : Ref sig .tc := ⟨.hbm, 171, rfl⟩
abbrev main_v152 : Ref sig .tc := ⟨.hbm, 172, rfl⟩
abbrev main_v153 : Ref sig .tc := ⟨.hbm, 173, rfl⟩
abbrev main_v154 : Ref sig .tc := ⟨.hbm, 174, rfl⟩
abbrev main_v155 : Ref sig .tc := ⟨.hbm, 175, rfl⟩
abbrev main_v156 : Ref sig .tc := ⟨.hbm, 176, rfl⟩
abbrev main_v157 : Ref sig .tc := ⟨.hbm, 177, rfl⟩
abbrev main_v158 : Ref sig .tc := ⟨.hbm, 178, rfl⟩
abbrev main_v159 : Ref sig .tc := ⟨.hbm, 179, rfl⟩
abbrev main_v160 : Ref sig .tc := ⟨.hbm, 180, rfl⟩
abbrev main_v161 : Ref sig .tc := ⟨.hbm, 181, rfl⟩
abbrev main_v162 : Ref sig .tc := ⟨.hbm, 182, rfl⟩
abbrev main_v163 : Ref sig .tc := ⟨.hbm, 183, rfl⟩
abbrev main_v164 : Ref sig .tc := ⟨.hbm, 184, rfl⟩
abbrev main_v165 : Ref sig .tc := ⟨.hbm, 185, rfl⟩
abbrev main_v166 : Ref sig .tc := ⟨.hbm, 186, rfl⟩
abbrev main_c_12 : Ref sig .tc := ⟨.hbm, 187, rfl⟩
abbrev main_call2_v0 : Ref sig .tc := ⟨.hbm, 188, rfl⟩
abbrev main_v167 : Ref sig .tc := ⟨.hbm, 189, rfl⟩
abbrev main_v168 : Ref sig .tc := ⟨.hbm, 190, rfl⟩
abbrev main_v169 : Ref sig .tc := ⟨.hbm, 191, rfl⟩
abbrev main_v170 : Ref sig .tc := ⟨.hbm, 192, rfl⟩
abbrev main_v171 : Ref sig .tc := ⟨.hbm, 193, rfl⟩
abbrev main_v172 : Ref sig .tc := ⟨.hbm, 194, rfl⟩
abbrev main_v173 : Ref sig .tc := ⟨.hbm, 195, rfl⟩

abbrev nD : Nat := 1
abbrev τ : Topo := Topo.v7x

variable {F : FTy → Type} [FloatOps F]
-- ==== Rwkv.lean ====
abbrev S8x4096x1792 : Shape := ⟨3, ![8, 4096, 1792]⟩
abbrev S1x1792 : Shape := ⟨2, ![1, 1792]⟩
abbrev S1x512 : Shape := ⟨2, ![1, 512]⟩
abbrev S1x64x512 : Shape := ⟨3, ![1, 64, 512]⟩
abbrev S1x128x512 : Shape := ⟨3, ![1, 128, 512]⟩
abbrev S1x8x64 : Shape := ⟨3, ![1, 8, 64]⟩
abbrev S32768x1792 : Shape := ⟨2, ![32768, 1792]⟩
abbrev S1792 : Shape := ⟨1, ![1792]⟩
abbrev S512 : Shape := ⟨1, ![512]⟩
abbrev S64x512 : Shape := ⟨2, ![64, 512]⟩
abbrev S128x512 : Shape := ⟨2, ![128, 512]⟩
abbrev S8x64 : Shape := ⟨2, ![8, 64]⟩
abbrev S_ : Shape := ⟨0, ![]⟩
abbrev S128x1024 : Shape := ⟨2, ![128, 1024]⟩
abbrev S1 : Shape := ⟨1, ![1]⟩
abbrev S2 : Shape := ⟨1, ![2]⟩
abbrev S256 : Shape := ⟨1, ![256]⟩
abbrev S256x1 : Shape := ⟨2, ![256, 1]⟩
abbrev S1x256 : Shape := ⟨2, ![1, 256]⟩
abbrev S256x256 : Shape := ⟨2, ![256, 256]⟩
abbrev S512x1 : Shape := ⟨2, ![512, 1]⟩
abbrev S512x512 : Shape := ⟨2, ![512, 512]⟩
abbrev S32768x512 : Shape := ⟨2, ![32768, 512]⟩
abbrev S512x1792 : Shape := ⟨2, ![512, 1792]⟩
abbrev S4x128x128 : Shape := ⟨3, ![4, 128, 128]⟩
abbrev S512x128 : Shape := ⟨2, ![512, 128]⟩
abbrev S512x1024 : Shape := ⟨2, ![512, 1024]⟩
abbrev S512x256 : Shape := ⟨2, ![512, 256]⟩
abbrev S64x128 : Shape := ⟨2, ![64, 128]⟩
abbrev S128x128 : Shape := ⟨2, ![128, 128]⟩
abbrev S256x128 : Shape := ⟨2, ![256, 128]⟩
abbrev S128x256 : Shape := ⟨2, ![128, 256]⟩
abbrev S1x128x128 : Shape := ⟨3, ![1, 128, 128]⟩
abbrev S1x128 : Shape := ⟨2, ![1, 128]⟩

abbrev nBuf : Space → Nat
  | .hbm => 121
  | .vmem => 19
  | .smem => 0
  | _ => 0

abbrev bufTy : (tb : Table) → Fin (tcTables nBuf tb) → BufTy
  | .hbm, ⟨0, _⟩ => ⟨S8x4096x1792, .f32⟩
  | .hbm, ⟨1, _⟩ => ⟨S1x1792, .f32⟩
  | .hbm, ⟨2, _⟩ => ⟨S1x512, .f32⟩
  | .hbm, ⟨3, _⟩ => ⟨S1x64x512, .f32⟩
  | .hbm, ⟨4, _⟩ => ⟨S1x512, .f32⟩
  | .hbm, ⟨5, _⟩ => ⟨S1x64x512, .f32⟩
  | .hbm, ⟨6, _⟩ => ⟨S1x128x512, .f32⟩
  | .hbm, ⟨7, _⟩ => ⟨S1x512, .f32⟩
  | .hbm, ⟨8, _⟩ => ⟨S1x512, .f32⟩
  | .hbm, ⟨9, _⟩ => ⟨S1x8x64, .f32⟩
  | .hbm, ⟨10, _⟩ => ⟨S1x512, .f32⟩
  | .hbm, ⟨11, _⟩ => ⟨S1x512, .f32⟩
  | .hbm, ⟨12, _⟩ => ⟨S32768x1792, .f32⟩
  | .hbm, ⟨13, _⟩ => ⟨S1792, .f32⟩
  | .hbm, ⟨14, _⟩ => ⟨S512, .f32⟩
  | .hbm, ⟨15, _⟩ => ⟨S64x512, .f32⟩
  | .hbm, ⟨16, _⟩ => ⟨S512, .f32⟩
  | .hbm, ⟨17, _⟩ => ⟨S64x512, .f32⟩
  | .hbm, ⟨18, _⟩ => ⟨S128x512, .f32⟩
  | .hbm, ⟨19, _⟩ => ⟨S512, .f32⟩
  | .hbm, ⟨20, _⟩ => ⟨S512, .f32⟩
  | .hbm, ⟨21, _⟩ => ⟨S8x64, .f32⟩
  | .hbm, ⟨22, _⟩ => ⟨S512, .f32⟩
  | .hbm, ⟨23, _⟩ => ⟨S512, .f32⟩
  | .hbm, ⟨24, _⟩ => ⟨S_, .f32⟩
  | .hbm, ⟨25, _⟩ => ⟨S128x1024, .f32⟩
  | .hbm, ⟨26, _⟩ => ⟨S_, .i32⟩
  | .hbm, ⟨27, _⟩ => ⟨S1, .i32⟩
  | .hbm, ⟨28, _⟩ => ⟨S_, .i32⟩
  | .hbm, ⟨29, _⟩ => ⟨S1, .i32⟩
  | .hbm, ⟨30, _⟩ => ⟨S2, .i32⟩
  | .hbm, ⟨31, _⟩ => ⟨S128x1024, .f32⟩
  | .hbm, ⟨32, _⟩ => ⟨S_, .i32⟩
  | .hbm, ⟨33, _⟩ => ⟨S1, .i32⟩
  | .hbm, ⟨34, _⟩ => ⟨S_, .i32⟩
  | .hbm, ⟨35, _⟩ => ⟨S1, .i32⟩
  | .hbm, ⟨36, _⟩ => ⟨S2, .i32⟩
  | .hbm, ⟨37, _⟩ => ⟨S128x1024, .f32⟩
  | .hbm, ⟨38, _⟩ => ⟨S256, .i32⟩
  | .hbm, ⟨39, _⟩ => ⟨S_, .i32⟩
  | .hbm, ⟨40, _⟩ => ⟨S_, .i32⟩
  | .hbm, ⟨41, _⟩ => ⟨S256, .i32⟩
  | .hbm, ⟨42, _⟩ => ⟨S256, .i32⟩
  | .hbm, ⟨43, _⟩ => ⟨S256, .i32⟩
  | .hbm, ⟨44, _⟩ => ⟨S_, .i32⟩
  | .hbm, ⟨45, _⟩ => ⟨S256, .i32⟩
  | .hbm, ⟨46, _⟩ => ⟨S256, .i1⟩
  | .hbm, ⟨47, _⟩ => ⟨S256, .i32⟩
  | .hbm, ⟨48, _⟩ => ⟨S256, .i32⟩
  | .hbm, ⟨49, _⟩ => ⟨S_, .i32⟩
  | .hbm, ⟨50, _⟩ => ⟨S256, .i32⟩
  | .hbm, ⟨51, _⟩ => ⟨S256, .i1⟩
  | .hbm, ⟨52, _⟩ => ⟨S256, .i1⟩
  | .hbm, ⟨53, _⟩ => ⟨S_, .i32⟩
  | .hbm, ⟨54, _⟩ => ⟨S256, .i32⟩
  | .hbm, ⟨55, _⟩ => ⟨S256, .i32⟩
  | .hbm, ⟨56, _⟩ => ⟨S256, .i32⟩
  | .hbm, ⟨57, _⟩ => ⟨S256x1, .i32⟩
  | .hbm, ⟨58, _⟩ => ⟨S1x256, .i32⟩
  | .hbm, ⟨59, _⟩ => ⟨S256x256, .i32⟩
  | .hbm, ⟨60, _⟩ => ⟨S256x256, .i32⟩
  | .hbm, ⟨61, _⟩ => ⟨S256x256, .i1⟩
  | .hbm, ⟨62, _⟩ => ⟨S256x256, .f32⟩
  | .hbm, ⟨63, _⟩ => ⟨S512, .i32⟩
  | .hbm, ⟨64, _⟩ => ⟨S512x1, .i32⟩
  | .hbm, ⟨65, _⟩ => ⟨S_, .i32⟩
  | .hbm, ⟨66, _⟩ => ⟨S_, .i32⟩
  | .hbm, ⟨67, _⟩ => ⟨S512x1, .i32⟩
  | .hbm, ⟨68, _⟩ => ⟨S512x1, .i32⟩
  | .hbm, ⟨69, _⟩ => ⟨S512x1, .i32⟩
  | .hbm, ⟨70, _⟩ => ⟨S_, .i32⟩
  | .hbm, ⟨71, _⟩ => ⟨S512x1, .i32⟩
  | .hbm, ⟨72, _⟩ => ⟨S512x1, .i1⟩
  | .hbm, ⟨73, _⟩ => ⟨S512x1, .i32⟩
  | .hbm, ⟨74, _⟩ => ⟨S512x1, .i32⟩
  | .hbm, ⟨75, _⟩ => ⟨S_, .i32⟩
  | .hbm, ⟨76, _⟩ => ⟨S512x1, .i32⟩
  | .hbm, ⟨77, _⟩ => ⟨S512x1, .i1⟩
  | .hbm, ⟨78, _⟩ => ⟨S512x1, .i1⟩
  | .hbm, ⟨79, _⟩ => ⟨S_, .i32⟩
  | .hbm, ⟨80, _⟩ => ⟨S512x1, .i32⟩
  | .hbm, ⟨81, _⟩ => ⟨S512x1, .i32⟩
  | .hbm, ⟨82, _⟩ => ⟨S512x1, .i32⟩
  | .hbm, ⟨83, _⟩ => ⟨S1x512, .i32⟩
  | .hbm, ⟨84, _⟩ => ⟨S_, .i32⟩
  | .hbm, ⟨85, _⟩ => ⟨S_, .i32⟩
  | .hbm, ⟨86, _⟩ => ⟨S1x512, .i32⟩
  | .hbm, ⟨87, _⟩ => ⟨S1x512, .i32⟩
  | .hbm, ⟨88, _⟩ => ⟨S1x512, .i32⟩
  | .hbm, ⟨89, _⟩ => ⟨S_, .i32⟩
  | .hbm, ⟨90, _⟩ => ⟨S1x512, .i32⟩
  | .hbm, ⟨91, _⟩ => ⟨S1x512, .i1⟩
  | .hbm, ⟨92, _⟩ => ⟨S1x512, .i32⟩
  | .hbm, ⟨93, _⟩ => ⟨S1x512, .i32⟩
  | .hbm, ⟨94, _⟩ => ⟨S_, .i32⟩
  | .hbm, ⟨95, _⟩ => ⟨S1x512, .i32⟩
  | .hbm, ⟨96, _⟩ => ⟨S1x512, .i1⟩
  | .hbm, ⟨97, _⟩ => ⟨S1x512, .i1⟩
  | .hbm, ⟨98, _⟩ => ⟨S_, .i32⟩
  | .hbm, ⟨99, _⟩ => ⟨S1x512, .i32⟩
  | .hbm, ⟨100, _⟩ => ⟨S1x512, .i32⟩
  | .hbm, ⟨101, _⟩ => ⟨S1x512, .i32⟩
  | .hbm, ⟨102, _⟩ => ⟨S512x512, .i32⟩
  | .hbm, ⟨103, _⟩ => ⟨S512x512, .i32⟩
  | .hbm, ⟨104, _⟩ => ⟨S512x512, .i1⟩
  | .hbm, ⟨105, _⟩ => ⟨S512x1, .i32⟩
  | .hbm, ⟨106, _⟩ => ⟨S1x512, .i32⟩
  | .hbm, ⟨107, _⟩ => ⟨S512x512, .i32⟩
  | .hbm, ⟨108, _⟩ => ⟨S512x512, .i32⟩
  | .hbm, ⟨109, _⟩ => ⟨S512x512, .i1⟩
  | .hbm, ⟨110, _⟩ => ⟨S512x512, .i1⟩
  | .hbm, ⟨111, _⟩ => ⟨S512x512, .f32⟩
  | .hbm, ⟨112, _⟩ => ⟨S1x1792, .f32⟩
  | .hbm, ⟨113, _⟩ => ⟨S1x512, .f32⟩
  | .hbm, ⟨114, _⟩ => ⟨S1x512, .f32⟩
  | .hbm, ⟨115, _⟩ => ⟨S1x512, .f32⟩
  | .hbm, ⟨116, _⟩ => ⟨S1x512, .f32⟩
  | .hbm, ⟨117, _⟩ => ⟨S1x512, .f32⟩
  | .hbm, ⟨118, _⟩ => ⟨S1x512, .f32⟩
  | .hbm, ⟨119, _⟩ => ⟨S1x512, .f32⟩
  | .hbm, ⟨120, _⟩ => ⟨S32768x512, .bf16⟩
  | .local _ .vmem, ⟨0, _⟩ => ⟨S512x1792, .f32⟩
  | .local _ .vmem, ⟨1, _⟩ => ⟨S512x1792, .f32⟩
  | .local _ .vmem, ⟨2, _⟩ => ⟨S1x1792, .f32⟩
  | .local _ .vmem, ⟨3, _⟩ => ⟨S1x512, .f32⟩
  | .local _ .vmem, ⟨4, _⟩ => ⟨S128x1024, .f32⟩
  | .local _ .vmem, ⟨5, _⟩ => ⟨S1x512, .f32⟩
  | .local _ .vmem, ⟨6, _⟩ => ⟨S128x512, .f32⟩
  | .local _ .vmem, ⟨7, _⟩ => ⟨S1x512, .f32⟩
  | .local _ .vmem, ⟨8, _⟩ => ⟨S1x512, .f32⟩
  | .local _ .vmem, ⟨9, _⟩ => ⟨S1x512, .f32⟩
  | .local _ .vmem, ⟨10, _⟩ => ⟨S1x512, .f32⟩
  | .local _ .vmem, ⟨11, _⟩ => ⟨S1x512, .f32⟩
  | .local _ .vmem, ⟨12, _⟩ => ⟨S256x256, .f32⟩
  | .local _ .vmem, ⟨13, _⟩ => ⟨S512x512, .f32⟩
  | .local _ .vmem, ⟨14, _⟩ => ⟨S512x512, .bf16⟩
  | .local _ .vmem, ⟨15, _⟩ => ⟨S512x512, .bf16⟩
  | .local _ .vmem, ⟨16, _⟩ => ⟨S1x1792, .f32⟩
  | .local _ .vmem, ⟨17, _⟩ => ⟨S4x128x128, .f32⟩
  | .local _ .vmem, ⟨18, _⟩ => ⟨S512x512, .f32⟩
  | _, _ => ⟨S8x4096x1792, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_cst : Ref sig .tc := ⟨.hbm, 24, rfl⟩
abbrev main_v12 : Ref sig .tc := ⟨.hbm, 25, rfl⟩
abbrev main_c : Ref sig .tc := ⟨.hbm, 26, rfl⟩
abbrev main_v13 : Ref sig .tc := ⟨.hbm, 27, rfl⟩
abbrev main_c_0 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_c_1 : Ref sig .tc := ⟨.hbm, 32, rfl⟩
abbrev main_v17 : Ref sig .tc := ⟨.hbm, 33, rfl⟩
abbrev main_c_2 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_c_3 : Ref sig .tc := ⟨.hbm, 39, rfl⟩
abbrev main_call0_v0 : Ref sig .tc := ⟨.hbm, 40, rfl⟩
abbrev main_call0_v1 : Ref sig .tc := ⟨.hbm, 41, rfl⟩
abbrev main_call0_v2 : Ref sig .tc := ⟨.hbm, 42, rfl⟩
abbrev main_call0_v3 : Ref sig .tc := ⟨.hbm, 43, rfl⟩
abbrev main_call0_v4 : Ref sig .tc := ⟨.hbm, 44, rfl⟩
abbrev main_call0_v5 : Ref sig .tc := ⟨.hbm, 45, rfl⟩
abbrev main_call0_v6 : Ref sig .tc := ⟨.hbm, 46, rfl⟩
abbrev main_call0_v7 : Ref sig .tc := ⟨.hbm, 47, rfl⟩
abbrev main_call0_v8 : Ref sig .tc := ⟨.hbm, 48, rfl⟩
abbrev main_call0_c : Ref sig .tc := ⟨.hbm, 49, rfl⟩
abbrev main_call0_v9 : Ref sig .tc := ⟨.hbm, 50, rfl⟩
abbrev main_call0_v10 : Ref sig .tc := ⟨.hbm, 51, rfl⟩
abbrev main_call0_v11 : Ref sig .tc := ⟨.hbm, 52, rfl⟩
abbrev main_call0_c_0 : Ref sig .tc := ⟨.hbm, 53, rfl⟩
abbrev main_call0_v12 : Ref sig .tc := ⟨.hbm, 54, rfl⟩
abbrev main_call0_v13 : Ref sig .tc := ⟨.hbm, 55, rfl⟩
abbrev main_v22 : Ref sig .tc := ⟨.hbm, 56, rfl⟩
abbrev main_v23 : Ref sig .tc := ⟨.hbm, 57, rfl⟩
abbrev main_v24 : Ref sig .tc := ⟨.hbm, 58, rfl⟩
abbrev main_v25 : Ref sig .tc := ⟨.hbm, 59, rfl⟩
abbrev main_v26 : Ref sig .tc := ⟨.hbm, 60, rfl⟩
abbrev main_v27 : Ref sig .tc := ⟨.hbm, 61, rfl⟩
abbrev main_v28 : Ref sig .tc := ⟨.hbm, 62, rfl⟩
abbrev main_v29 : Ref sig .tc := ⟨.hbm, 63, rfl⟩
abbrev main_v30 : Ref sig .tc := ⟨.hbm, 64, rfl⟩
abbrev main_c_4 : Ref sig .tc := ⟨.hbm, 65, rfl⟩
abbrev main_call1_v0 : Ref sig .tc := ⟨.hbm, 66, rfl⟩
abbrev main_call1_v1 : Ref sig .tc := ⟨.hbm, 67, rfl⟩
abbrev main_call1_v2 : Ref sig .tc := ⟨.hbm, 68, rfl⟩
abbrev main_call1_v3 : Ref sig .tc := ⟨.hbm, 69, rfl⟩
abbrev main_call1_v4 : Ref sig .tc := ⟨.hbm, 70, rfl⟩
abbrev main_call1_v5 : Ref sig .tc := ⟨.hbm, 71, rfl⟩
abbrev main_call1_v6 : Ref sig .tc := ⟨.hbm, 72, rfl⟩
abbrev main_call1_v7 : Ref sig .tc := ⟨.hbm, 73, rfl⟩
abbrev main_call1_v8 : Ref sig .tc := ⟨.hbm, 74, rfl⟩
abbrev main_call1_c : Ref sig .tc := ⟨.hbm, 75, rfl⟩
abbrev main_call1_v9 : Ref sig .tc := ⟨.hbm, 76, rfl⟩
abbrev main_call1_v10 : Ref sig .tc := ⟨.hbm, 77, rfl⟩
abbrev main_call1_v11 : Ref sig .tc := ⟨.hbm, 78, rfl⟩
abbrev main_call1_c_0 : Ref sig .tc := ⟨.hbm, 79, rfl⟩
abbrev main_call1_v12 : Ref sig .tc := ⟨.hbm, 80, rfl⟩
abbrev main_call1_v13 : Ref sig .tc := ⟨.hbm, 81, rfl⟩
abbrev main_v31 : Ref sig .tc := ⟨.hbm, 82, rfl⟩
abbrev main_v32 : Ref sig .tc := ⟨.hbm, 83, rfl⟩
abbrev main_c_5 : Ref sig .tc := ⟨.hbm, 84, rfl⟩
abbrev main_call2_v0 : Ref sig .tc := ⟨.hbm, 85, rfl⟩
abbrev main_call2_v1 : Ref sig .tc := ⟨.hbm, 86, rfl⟩
abbrev main_call2_v2 : Ref sig .tc := ⟨.hbm, 87, rfl⟩
abbrev main_call2_v3 : Ref sig .tc := ⟨.hbm, 88, rfl⟩
abbrev main_call2_v4 : Ref sig .tc := ⟨.hbm, 89, rfl⟩
abbrev main_call2_v5 : Ref sig .tc := ⟨.hbm, 90, rfl⟩
abbrev main_call2_v6 : Ref sig .tc := ⟨.hbm, 91, rfl⟩
abbrev main_call2_v7 : Ref sig .tc := ⟨.hbm, 92, rfl⟩
abbrev main_call2_v8 : Ref sig .tc := ⟨.hbm, 93, rfl⟩
abbrev main_call2_c : Ref sig .tc := ⟨.hbm, 94, rfl⟩
abbrev main_call2_v9 : Ref sig .tc := ⟨.hbm, 95, rfl⟩
abbrev main_call2_v10 : Ref sig .tc := ⟨.hbm, 96, rfl⟩
abbrev main_call2_v11 : Ref sig .tc := ⟨.hbm, 97, rfl⟩
abbrev main_call2_c_0 : Ref sig .tc := ⟨.hbm, 98, rfl⟩
abbrev main_call2_v12 : Ref sig .tc := ⟨.hbm, 99, rfl⟩
abbrev main_call2_v13 : Ref sig .tc := ⟨.hbm, 100, rfl⟩
abbrev main_v33 : Ref sig .tc := ⟨.hbm, 101, rfl⟩
abbrev main_v34 : Ref sig .tc := ⟨.hbm, 102, rfl⟩
abbrev main_v35 : Ref sig .tc := ⟨.hbm, 103, rfl⟩
abbrev main_v36 : Ref sig .tc := ⟨.hbm, 104, rfl⟩
abbrev main_v37 : Ref sig .tc := ⟨.hbm, 105, rfl⟩
abbrev main_v38 : Ref sig .tc := ⟨.hbm, 106, rfl⟩
abbrev main_v39 : Ref sig .tc := ⟨.hbm, 107, rfl⟩
abbrev main_v40 : Ref sig .tc := ⟨.hbm, 108, rfl⟩
abbrev main_v41 : Ref sig .tc := ⟨.hbm, 109, rfl⟩
abbrev main_v42 : Ref sig .tc := ⟨.hbm, 110, rfl⟩
abbrev main_v43 : Ref sig .tc := ⟨.hbm, 111, rfl⟩
abbrev main_v44 : Ref sig .tc := ⟨.hbm, 112, rfl⟩
abbrev main_v45 : Ref sig .tc := ⟨.hbm, 113, rfl⟩
abbrev main_v46 : Ref sig .tc := ⟨.hbm, 114, rfl⟩
abbrev main_v47 : Ref sig .tc := ⟨.hbm, 115, rfl⟩
abbrev main_v48 : Ref sig .tc := ⟨.hbm, 116, rfl⟩
abbrev main_v49 : Ref sig .tc := ⟨.hbm, 117, rfl⟩
abbrev main_v50 : Ref sig .tc := ⟨.hbm, 118, rfl⟩
abbrev main_v51 : Ref sig .tc := ⟨.hbm, 119, rfl⟩
abbrev main_v52 : Ref sig .tc := ⟨.hbm, 120, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg9_0 : Ref sig .tc := ⟨.vmem, 10, rfl⟩
abbrev cc0_stg10_0 : Ref sig .tc := ⟨.vmem, 11, rfl⟩
abbrev cc0_stg11_0 : Ref sig .tc := ⟨.vmem, 12, rfl⟩
abbrev cc0_stg12_0 : Ref sig .tc := ⟨.vmem, 13, rfl⟩
abbrev cc0_stg13_0 : Ref sig .tc := ⟨.vmem, 14, rfl⟩
abbrev cc0_stg13_1 : Ref sig .tc := ⟨.vmem, 15, rfl⟩
abbrev cc0_scratch0 : Ref sig .tc := ⟨.vmem, 16, rfl⟩
abbrev cc0_scratch1 : Ref sig .tc := ⟨.vmem, 17, rfl⟩
abbrev cc0_scratch2 : Ref sig .tc := ⟨.vmem, 18, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem9_0 : DmaSem sig := 10
abbrev cc0_sem10_0 : DmaSem sig := 11
abbrev cc0_sem11_0 : DmaSem sig := 12
abbrev cc0_sem12_0 : DmaSem sig := 13
abbrev cc0_sem13_0 : DmaSem sig := 14
abbrev cc0_sem13_1 : DmaSem sig := 15

abbrev nD : Nat := 1
abbrev τ : Topo := Topo.v7x

variable {F : FTy → Type} [FloatOps F]

abbrev grid0 : Pipeline.Grid := ⟨2, ![8, 8], ![false, false]⟩

def cc0_transform_0 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

abbrev stage0_0 : Fin 2 → Memref sig .tc .vmem S512x1792 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1x1792 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S128x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S128x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1x512 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S1x512 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S1x512 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 1 → Memref sig .tc .vmem S1x512 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 1 → Memref sig .tc .vmem S256x256 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false, false]

abbrev stage0_12 : Fin 1 → Memref sig .tc .vmem S512x512 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false, false]

abbrev stage0_13 : Fin 2 → Memref sig .tc .vmem S512x512 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, true]
-- ==== Compress.lean ====
abbrev S2048x2048 : Shape := ⟨2, ![2048, 2048]⟩
abbrev S1x32x64 : Shape := ⟨3, ![1, 32, 64]⟩
abbrev S1x2048x256 : Shape := ⟨3, ![1, 2048, 256]⟩
abbrev S1x256x64 : Shape := ⟨3, ![1, 256, 64]⟩
abbrev S32x64 : Shape := ⟨2, ![32, 64]⟩
abbrev S2048x256 : Shape := ⟨2, ![2048, 256]⟩
abbrev S256x64 : Shape := ⟨2, ![256, 64]⟩
abbrev S2x16x64x256 : Shape := ⟨4, ![2, 16, 64, 256]⟩
abbrev S_ : Shape := ⟨0, ![]⟩
abbrev S2x2x16x2x64x256 : Shape := ⟨6, ![2, 2, 16, 2, 64, 256]⟩
abbrev S1 : Shape := ⟨1, ![1]⟩
abbrev S2 : Shape := ⟨1, ![2]⟩
abbrev S2x2x2048x256 : Shape := ⟨4, ![2, 2, 2048, 256]⟩
abbrev S2x256x2x64 : Shape := ⟨4, ![2, 256, 2, 64]⟩
abbrev S2x256x128 : Shape := ⟨3, ![2, 256, 128]⟩
abbrev S2x16x1x64 : Shape := ⟨4, ![2, 16, 1, 64]⟩
abbrev S2x16x2x64 : Shape := ⟨4, ![2, 16, 2, 64]⟩
abbrev S2x2048 : Shape := ⟨2, ![2, 2048]⟩
abbrev S8x256x2048 : Shape := ⟨3, ![8, 256, 2048]⟩
abbrev S8x256x128 : Shape := ⟨3, ![8, 256, 128]⟩
abbrev S1x256x2048 : Shape := ⟨3, ![1, 256, 2048]⟩
abbrev S1x256x128 : Shape := ⟨3, ![1, 256, 128]⟩
abbrev S256x2048 : Shape := ⟨2, ![256, 2048]⟩
abbrev S1x2048 : Shape := ⟨2, ![1, 2048]⟩
abbrev S256x128 : Shape := ⟨2, ![256, 128]⟩
abbrev S1x1x2048x256 : Shape := ⟨4, ![1, 1, 2048, 256]⟩
abbrev S256x256 : Shape := ⟨2, ![256, 256]⟩

abbrev nBuf : Space → Nat
  | .hbm => 86
  | .vmem => 14
  | .smem => 0
  | _ => 0

abbrev bufTy : (tb : Table) → Fin (tcTables nBuf tb) → BufTy
  | .hbm, ⟨0, _⟩ => ⟨S2048x2048, .f32⟩
  | .hbm, ⟨1, _⟩ => ⟨S2048x2048, .f32⟩
  | .hbm, ⟨2, _⟩ => ⟨S1x32x64, .f32⟩
  | .hbm, ⟨3, _⟩ => ⟨S1x32x64, .f32⟩
  | .hbm, ⟨4, _⟩ => ⟨S1x2048x256, .f32⟩
  | .hbm, ⟨5, _⟩ => ⟨S1x256x64, .f32⟩
  | .hbm, ⟨6, _⟩ => ⟨S1x2048x256, .f32⟩
  | .hbm, ⟨7, _⟩ => ⟨S1x256x64, .f32⟩
  | .hbm, ⟨8, _⟩ => ⟨S32x64, .f32⟩
  | .hbm, ⟨9, _⟩ => ⟨S32x64, .f32⟩
  | .hbm, ⟨10, _⟩ => ⟨S2048x256, .f32⟩
  | .hbm, ⟨11, _⟩ => ⟨S256x64, .f32⟩
  | .hbm, ⟨12, _⟩ => ⟨S2048x256, .f32⟩
  | .hbm, ⟨13, _⟩ => ⟨S256x64, .f32⟩
  | .hbm, ⟨14, _⟩ => ⟨S2x16x64x256, .f32⟩
  | .hbm, ⟨15, _⟩ => ⟨S_, .f32⟩
  | .hbm, ⟨16, _⟩ => ⟨S2x2x16x2x64x256, .f32⟩
  | .hbm, ⟨17, _⟩ => ⟨S_, .i32⟩
  | .hbm, ⟨18, _⟩ => ⟨S1, .i32⟩
  | .hbm, ⟨19, _⟩ => ⟨S_, .i32⟩
  | .hbm, ⟨20, _⟩ => ⟨S1, .i32⟩
  | .hbm, ⟨21, _⟩ => ⟨S2, .i32⟩
  | .hbm, ⟨22, _⟩ => ⟨S2x2x16x2x64x256, .f32⟩
  | .hbm, ⟨23, _⟩ => ⟨S_, .i32⟩
  | .hbm, ⟨24, _⟩ => ⟨S1, .i32⟩
  | .hbm, ⟨25, _⟩ => ⟨S_, .i32⟩
  | .hbm, ⟨26, _⟩ => ⟨S1, .i32⟩
  | .hbm, ⟨27, _⟩ => ⟨S2, .i32⟩
  | .hbm, ⟨28, _⟩ => ⟨S2x2x16x2x64x256, .f32⟩
  | .hbm, ⟨29, _⟩ => ⟨S2x2x2048x256, .f32⟩
  | .hbm, ⟨30, _⟩ => ⟨S_, .f32⟩
  | .hbm, ⟨31, _⟩ => ⟨S2x256x2x64, .f32⟩
  | .hbm, ⟨32, _⟩ => ⟨S_, .i32⟩
  | .hbm, ⟨33, _⟩ => ⟨S1, .i32⟩
  | .hbm, ⟨34, _⟩ => ⟨S_, .i32⟩
  | .hbm, ⟨35, _⟩ => ⟨S1, .i32⟩
  | .hbm, ⟨36, _⟩ => ⟨S2, .i32⟩
  | .hbm, ⟨37, _⟩ => ⟨S2x256x2x64, .f32⟩
  | .hbm, ⟨38, _⟩ => ⟨S_, .i32⟩
  | .hbm, ⟨39, _⟩ => ⟨S1, .i32⟩
  | .hbm, ⟨40, _⟩ => ⟨S_, .i32⟩
  | .hbm, ⟨41, _⟩ => ⟨S1, .i32⟩
  | .hbm, ⟨42, _⟩ => ⟨S2, .i32⟩
  | .hbm, ⟨43, _⟩ => ⟨S2x256x2x64, .f32⟩
  | .hbm, ⟨44, _⟩ => ⟨S2x256x128, .f32⟩
  | .hbm, ⟨45, _⟩ => ⟨S2x16x1x64, .f32⟩
  | .hbm, ⟨46, _⟩ => ⟨S2x16x2x64, .f32⟩
  | .hbm, ⟨47, _⟩ => ⟨S2x2048, .f32⟩
  | .hbm, ⟨48, _⟩ => ⟨S2x16x64x256, .f32⟩
  | .hbm, ⟨49, _⟩ => ⟨S_, .f32⟩
  | .hbm, ⟨50, _⟩ => ⟨S2x2x16x2x64x256, .f32⟩
  | .hbm, ⟨51, _⟩ => ⟨S_, .i32⟩
  | .hbm, ⟨52, _⟩ => ⟨S1, .i32⟩
  | .hbm, ⟨53, _⟩ => ⟨S_, .i32⟩
  | .hbm, ⟨54, _⟩ => ⟨S1, .i32⟩
  | .hbm, ⟨55, _⟩ => ⟨S2, .i32⟩
  | .hbm, ⟨56, _⟩ => ⟨S2x2x16x2x64x256, .f32⟩
  | .hbm, ⟨57, _⟩ => ⟨S_, .i32⟩
  | .hbm, ⟨58, _⟩ => ⟨S1, .i32⟩
  | .hbm, ⟨59, _⟩ => ⟨S_, .i32⟩
  | .hbm, ⟨60, _⟩ => ⟨S1, .i32⟩
  | .hbm, ⟨61, _⟩ => ⟨S2, .i32⟩
  | .hbm, ⟨62, _⟩ => ⟨S2x2x16x2x64x256, .f32⟩
  | .hbm, ⟨63, _⟩ => ⟨S2x2x2048x256, .f32⟩
  | .hbm, ⟨64, _⟩ => ⟨S_, .f32⟩
  | .hbm, ⟨65, _⟩ => ⟨S2x256x2x64, .f32⟩
  | .hbm, ⟨66, _⟩ => ⟨S_, .i32⟩
  | .hbm, ⟨67, _⟩ => ⟨S1, .i32⟩
  | .hbm, ⟨68, _⟩ => ⟨S_, .i32⟩
  | .hbm, ⟨69, _⟩ => ⟨S1, .i32⟩
  | .hbm, ⟨70, _⟩ => ⟨S2, .i32⟩
  | .hbm, ⟨71, _⟩ => ⟨S2x256x2x64, .f32⟩
  | .hbm, ⟨72, _⟩ => ⟨S_, .i32⟩
  | .hbm, ⟨73, _⟩ => ⟨S1, .i32⟩
  | .hbm, ⟨74, _⟩ => ⟨S_, .i32⟩
  | .hbm, ⟨75, _⟩ => ⟨S1, .i32⟩
  | .hbm, ⟨76, _⟩ => ⟨S2, .i32⟩
  | .hbm, ⟨77, _⟩ => ⟨S2x256x2x64, .f32⟩
  | .hbm, ⟨78, _⟩ => ⟨S2x256x128, .f32⟩
  | .hbm, ⟨79, _⟩ => ⟨S2x16x1x64, .f32⟩
  | .hbm, ⟨80, _⟩ => ⟨S2x16x2x64, .f32⟩
  | .hbm, ⟨81, _⟩ => ⟨S2x2048, .f32⟩
  | .hbm, ⟨82, _⟩ => ⟨S8x256x2048, .f32⟩
  | .hbm, ⟨83, _⟩ => ⟨S8x256x2048, .f32⟩
  | .hbm, ⟨84, _⟩ => ⟨S8x256x128, .f32⟩
  | .hbm, ⟨85, _⟩ => ⟨S8x256x128, .f32⟩
  | .local _ .vmem, ⟨0, _⟩ => ⟨S1x256x2048, .f32⟩
  | .local _ .vmem, ⟨1, _⟩ => ⟨S1x256x2048, .f32⟩
  | .local _ .vmem, ⟨2, _⟩ => ⟨S1x256x2048, .f32⟩
  | .local _ .vmem, ⟨3, _⟩ => ⟨S1x256x2048, .f32⟩
  | .local _ .vmem, ⟨4, _⟩ => ⟨S2x2048, .f32⟩
  | .local _ .vmem, ⟨5, _⟩ => ⟨S2x2048, .f32⟩
  | .local _ .vmem, ⟨6, _⟩ => ⟨S2x2x2048x256, .f32⟩
  | .local _ .vmem, ⟨7, _⟩ => ⟨S2x2x2048x256, .f32⟩
  | .local _ .vmem, ⟨8, _⟩ => ⟨S2x256x128, .f32⟩
  | .local _ .vmem, ⟨9, _⟩ => ⟨S2x256x128, .f32⟩
  | .local _ .vmem, ⟨10, _⟩ => ⟨S1x256x128, .f32⟩
  | .local _ .vmem, ⟨11, _⟩ => ⟨S1x256x128, .f32⟩
  | .local _ .vmem, ⟨12, _⟩ => ⟨S1x256x128, .f32⟩
  | .local _ .vmem, ⟨13, _⟩ => ⟨S1x256x128, .f32⟩
  | _, _ => ⟨S2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_cst : Ref sig .tc := ⟨.hbm, 15, rfl⟩
abbrev main_v7 : Ref sig .tc := ⟨.hbm, 16, rfl⟩
abbrev main_c : Ref sig .tc := ⟨.hbm, 17, rfl⟩
abbrev main_v8 : Ref sig .tc := ⟨.hbm, 18, rfl⟩
abbrev main_c_0 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_c_1 : Ref sig .tc := ⟨.hbm, 23, rfl⟩
abbrev main_v12 : Ref sig .tc := ⟨.hbm, 24, rfl⟩
abbrev main_c_2 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_cst_3 : Ref sig .tc := ⟨.hbm, 30, rfl⟩
abbrev main_v17 : Ref sig .tc := ⟨.hbm, 31, rfl⟩
abbrev main_c_4 : Ref sig .tc := ⟨.hbm, 32, rfl⟩
abbrev main_v18 : Ref sig .tc := ⟨.hbm, 33, rfl⟩
abbrev main_c_5 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_c_6 : Ref sig .tc := ⟨.hbm, 38, rfl⟩
abbrev main_v22 : Ref sig .tc := ⟨.hbm, 39, rfl⟩
abbrev main_c_7 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_cst_8 : Ref sig .tc := ⟨.hbm, 49, rfl⟩
abbrev main_v31 : Ref sig .tc := ⟨.hbm, 50, rfl⟩
abbrev main_c_9 : Ref sig .tc := ⟨.hbm, 51, rfl⟩
abbrev main_v32 : Ref sig .tc := ⟨.hbm, 52, rfl⟩
abbrev main_c_10 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_c_11 : Ref sig .tc := ⟨.hbm, 57, rfl⟩
abbrev main_v36 : Ref sig .tc := ⟨.hbm, 58, rfl⟩
abbrev main_c_12 : Ref sig .tc := ⟨.hbm, 59, rfl⟩
abbrev main_v37 : Ref sig .tc := ⟨.hbm, 60, rfl⟩
abbrev main_v38 : Ref sig .tc := ⟨.hbm, 61, rfl⟩
abbrev main_v39 : Ref sig .tc := ⟨.hbm, 62, rfl⟩
abbrev main_v40 : Ref sig .tc := ⟨.hbm, 63, rfl⟩
abbrev main_cst_13 : Ref sig .tc := ⟨.hbm, 64, rfl⟩
abbrev main_v41 : Ref sig .tc := ⟨.hbm, 65, rfl⟩
abbrev main_c_14 : Ref sig .tc := ⟨.hbm, 66, rfl⟩
abbrev main_v42 : Ref sig .tc := ⟨.hbm, 67, rfl⟩
abbrev main_c_15 : Ref sig .tc := ⟨.hbm, 68, rfl⟩
abbrev main_v43 : Ref sig .tc := ⟨.hbm, 69, rfl⟩
abbrev main_v44 : Ref sig .tc := ⟨.hbm, 70, rfl⟩
abbrev main_v45 : Ref sig .tc := ⟨.hbm, 71, rfl⟩
abbrev main_c_16 : Ref sig .tc := ⟨.hbm, 72, rfl⟩
abbrev main_v46 : Ref sig .tc := ⟨.hbm, 73, rfl⟩
abbrev main_c_17 : Ref sig .tc := ⟨.hbm, 74, rfl⟩
abbrev main_v47 : Ref sig .tc := ⟨.hbm, 75, rfl⟩
abbrev main_v48 : Ref sig .tc := ⟨.hbm, 76, rfl⟩
abbrev main_v49 : Ref sig .tc := ⟨.hbm, 77, rfl⟩
abbrev main_v50 : Ref sig .tc := ⟨.hbm, 78, rfl⟩
abbrev main_v51 : Ref sig .tc := ⟨.hbm, 79, rfl⟩
abbrev main_v52 : Ref sig .tc := ⟨.hbm, 80, rfl⟩
abbrev main_v53 : Ref sig .tc := ⟨.hbm, 81, rfl⟩
abbrev main_v54 : Ref sig .tc := ⟨.hbm, 82, rfl⟩
abbrev main_v55 : Ref sig .tc := ⟨.hbm, 83, rfl⟩
abbrev main_v56_0 : Ref sig .tc := ⟨.hbm, 84, rfl⟩
abbrev main_v56_1 : Ref sig .tc := ⟨.hbm, 85, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg8_1 : Ref sig .tc := ⟨.vmem, 11, rfl⟩
abbrev cc0_stg9_0 : Ref sig .tc := ⟨.vmem, 12, rfl⟩
abbrev cc0_stg9_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem8_1 : DmaSem sig := 11
abbrev cc0_sem9_0 : DmaSem sig := 12
abbrev cc0_sem9_1 : DmaSem sig := 13

abbrev nD : Nat := 1
abbrev τ : Topo := Topo.v7x

variable {F : FTy → Type} [FloatOps F]

abbrev grid0 : Pipeline.Grid := ⟨1, ![8], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, c0_i32_1.toNat, c0_i32_2.toNat]

def cc0_transform_5 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, c0_i32_1.toNat, c0_i32_2.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_9 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x256x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S2x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S2x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S2x2x2048x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S2x2x2048x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S2x256x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S2x256x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S1x256x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S1x256x128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]
-- ==== Proof.FfnBlock.lean ====
/- What one grid point of the feed-forward call leaves in its three carried buffers and in its output block, as the
   body's own pure functions of the point's input blocks and of what the point before left. -/
module

public import proofs.«01_k».proof.Proof.Gen.FfnIdeal.Value
public import Idealize.ShloMosaic.Lib.Pipeline.ValueKit
public import Idealize.ShloMosaic.Lib.Pipeline.ValueKit.Held
public import Idealize.ShloMosaic.Lib.Pipeline.ReadBack

@[expose] public section

set_option maxRecDepth 16384

noncomputable section

namespace Cert.FfnIdeal.Block

open Cert.FfnIdeal Cert.FfnIdeal.Gen Idealize.ShloMosaic Idealize.ShloMosaic.TcCoe Idealize.SL.Sem

variable (m : (ℓ : Loc nD τ sig) → Buf (Elt Ideal) ℓ)

/-- The residual stream of a row block: the input rows plus the two halves of the output projection. -/
def hW (c : Dev nD) (t : Fin cfg0.N) : Vec Ideal S1024x1024 .f32 :=
  k0_pay5 (iblk m c 0 t) (iblk m c 1 t) (iblk m c 3 t) (iblk m c 2 t) (iblk m c 4 t)

/-- The normalised rows of a row block. -/
def uW (c : Dev nD) (t : Fin cfg0.N) : Vec Ideal S1024x1024 .bf16 :=
  k0_pay6 (iblk m c 0 t) (iblk m c 1 t) (iblk m c 3 t) (iblk m c 2 t) (iblk m c 4 t) (iblk m c 5 t)

theorem h_A (c : Dev nD) (t : Fin cfg0.N) (h0 : t.val % 11 = 0) :
    (outsAt0 m c t.val t.isLt).2.1 = hW m c t := by
  rw [outsAt0_A m c t h0 (by omega)]
  dsimp only
  frame_out
  rfl

theorem h_hold (c : Dev nD) (t : Fin cfg0.N) (h0 : ¬ t.val % 11 = 0) :
    (outsAt0 m c t.val t.isLt).2.1 = (outsAt0 m c (t.val - 1) (Nat.lt_of_le_of_lt (Nat.sub_le _ _) t.isLt)).2.1 := by
  by_cases h1 : t.val % 11 = 10
  · rw [outsAt0_C m c t h0 h1]; rfl
  · rw [outsAt0_B m c t h0 h1]; rfl

theorem u_A (c : Dev nD) (t : Fin cfg0.N) (h0 : t.val % 11 = 0) :
    (outsAt0 m c t.val t.isLt).2.2.1 = uW m c t := by
  rw [outsAt0_A m c t h0 (by omega)]
  dsimp only
  frame_out
  rfl

theorem u_hold (c : Dev nD) (t : Fin cfg0.N) (h0 : ¬ t.val % 11 = 0) :
    (outsAt0 m c t.val t.isLt).2.2.1
      = (outsAt0 m c (t.val - 1) (Nat.lt_of_le_of_lt (Nat.sub_le _ _) t.isLt)).2.2.1 := by
  by_cases h1 : t.val % 11 = 10
  · rw [outsAt0_C m c t h0 h1]; rfl
  · rw [outsAt0_B m c t h0 h1]; rfl

theorem acc_A (c : Dev nD) (t : Fin cfg0.N) (h0 : t.val % 11 = 0) :
    (outsAt0 m c t.val t.isLt).2.2.2
      = k0_pay2 (uW m c t) (iblk m c 6 t) (iblk m c 7 t) (k0_pay1 (F := Ideal) (k0_pay7 (F := Ideal))) (iblk m c 8 t) := by
  rw [outsAt0_A m c t h0 (by omega)]
  dsimp only
  frame_out
  rfl

theorem acc_step (c : Dev nD) (t : Fin cfg0.N) (h0 : ¬ t.val % 11 = 0) :
    (outsAt0 m c t.val t.isLt).2.2.2
      = k0_pay2 (outsAt0 m c (t.val - 1) (Nat.lt_of_le_of_lt (Nat.sub_le _ _) t.isLt)).2.2.1 (iblk m c 6 t)
          (iblk m c 7 t) (outsAt0 m c (t.val - 1) (Nat.lt_of_le_of_lt (Nat.sub_le _ _) t.isLt)).2.2.2
          (iblk m c 8 t) := by
  by_cases h1 : t.val % 11 = 10
  · rw [outsAt0_C m c t h0 h1]
    dsimp only
    frame_out
    simp only [read_unread_whole]
  · rw [outsAt0_B m c t h0 h1]
    dsimp only
    frame_out
    simp only [read_unread_whole]

theorem out_C (c : Dev nD) (t : Fin cfg0.N) (h1 : t.val % 11 = 10) :
    (outsAt0 m c t.val t.isLt).1
      = k0_pay3 (outsAt0 m c t.val t.isLt).2.1 (outsAt0 m c t.val t.isLt).2.2.2 (iblk m c 9 t) := by
  rw [acc_step m c t (by omega), h_hold m c t (by omega), outsAt0_C m c t (by omega) h1]
  dsimp only
  frame_out
  simp only [read_unread_whole]

end Cert.FfnIdeal.Block

end
-- ==== Proof.FfnSpec.lean ====
/- The feed-forward half of the layer on one row, written over the extended reals: the residual sum with the output
   projection, the root-mean-square norm, the gated hidden units and the second norm. Both programs are read as this. -/
module

public import Idealize.ShloMosaic.Lib.Pointwise

@[expose] public section

noncomputable section

namespace Cert.FfnSpec

open Idealize.ShloMosaic

/-- The row `f` scaled by one over its root mean square, times the weights `n`. -/
def norm (f n : Fin 1024 → EReal) (j : Fin 1024) : EReal :=
  f j * Ideal.rsqrt (Ideal.div (∑ k : Fin 1024, f k * f k) (Ideal.ofBits .f32 0x44800000#32)
    + Ideal.ofBits .f32 0x358637BD#32) * n j

/-- The row `x` plus the row `o` times the matrix `w`. -/
def resid (x o : Fin 1024 → EReal) (w : Fin 1024 → Fin 1024 → EReal) (j : Fin 1024) : EReal :=
  x j + ∑ k : Fin 1024, o k * w k j

/-- One hidden unit: the gate times its logistic, times the second projection. -/
def unit (u : Fin 1024 → EReal) (g p : Fin 1024 → EReal) : EReal :=
  (∑ k : Fin 1024, u k * g k) * Ideal.div 1 (1 + Ideal.exp (-∑ k : Fin 1024, u k * g k)) * ∑ k : Fin 1024, u k * p k

/-- The gated hidden layer of the normalised row `u`, projected back. -/
def mlp (u : Fin 1024 → EReal) (w1 w3 : Fin 1024 → Fin 2816 → EReal) (w2 : Fin 2816 → Fin 1024 → EReal)
    (j : Fin 1024) : EReal :=
  ∑ f : Fin 2816, unit u (fun k => w1 k f) (fun k => w3 k f) * w2 f j

/-- The result's row. -/
def row (x o : Fin 1024 → EReal) (w : Fin 1024 → Fin 1024 → EReal) (n : Fin 1024 → EReal)
    (w1 w3 : Fin 1024 → Fin 2816 → EReal) (w2 : Fin 2816 → Fin 1024 → EReal) (nf : Fin 1024 → EReal)
    (j : Fin 1024) : EReal :=
  norm (fun i => resid x o w i + mlp (norm (resid x o w) n) w1 w3 w2 i) nf j

end Cert.FfnSpec

end
-- ==== Proof.FfnPay.lean ====
/- The body's pure functions of its blocks, read at one index. -/
module

public import proofs.«01_k».proof.Proof.FfnBlock
public import proofs.«01_k».proof.Proof.FfnSpec

@[expose] public section

set_option maxRecDepth 16384

noncomputable section

namespace Cert.FfnIdeal.Block

open Cert.FfnIdeal Cert.FfnIdeal.Gen Idealize.ShloMosaic Idealize.ShloMosaic.TcCoe

theorem pay5_apply (x : Vec Ideal S1024x1024 .f32) (a b : Vec Ideal S1024x512 .bf16) (v w : Vec Ideal S512x1024 .bf16)
    (r : Fin 1024) (j : Fin 1024) :
    k0_pay5 (F := Ideal) x a v b w (ix2 r j)
      = x (ix2 r j) + (∑ k : Fin 512, a (ix2 r k) * v (ix2 k j)) + ∑ k : Fin 512, b (ix2 r k) * w (ix2 k j) := by
  pointwise [k0_pay5, k0_pay4]

theorem pay6_apply (x : Vec Ideal S1024x1024 .f32) (a b : Vec Ideal S1024x512 .bf16) (v w : Vec Ideal S512x1024 .bf16)
    (n : Vec Ideal S1x1024 .f32) (r : Fin 1024) (j : Fin 1024) :
    k0_pay6 (F := Ideal) x a v b w n (ix2 r j)
      = FfnSpec.norm (fun i => k0_pay5 (F := Ideal) x a v b w (ix2 r i)) (fun i => n (ix2 0 i)) j := by
  simp only [pay5_apply]
  pointwise [k0_pay6, k0_pay4]
  rfl

theorem pay2_apply (u : Vec Ideal S1024x1024 .bf16) (g p : Vec Ideal S1024x256 .bf16) (acc : Vec Ideal S1024x1024 .f32)
    (d : Vec Ideal S256x1024 .bf16) (r : Fin 1024) (j : Fin 1024) :
    k0_pay2 (F := Ideal) u g p acc d (ix2 r j)
      = acc (ix2 r j) + ∑ f : Fin 256,
          FfnSpec.unit (fun k => u (ix2 r k)) (fun k => g (ix2 k f)) (fun k => p (ix2 k f)) * d (ix2 f j) := by
  pointwise [k0_pay2]
  rfl

theorem zero_apply (r : Fin 1024) (j : Fin 1024) :
    k0_pay1 (F := Ideal) (k0_pay7 (F := Ideal)) (ix2 r j) = 0 := by
  pointwise [k0_pay1, k0_pay7]

theorem pay3_apply (h a : Vec Ideal S1024x1024 .f32) (n : Vec Ideal S1x1024 .f32) (r : Fin 1024) (j : Fin 1024) :
    k0_pay3 (F := Ideal) h a n (ix2 r j)
      = FfnSpec.norm (fun i => h (ix2 r i) + a (ix2 r i)) (fun i => n (ix2 0 i)) j := by
  pointwise [k0_pay3]
  rfl

end Cert.FfnIdeal.Block

end
-- ==== Proof.FfnReads.lean ====
/- Each input block of the feed-forward call read at an index, as an element of an argument. -/
module

public import proofs.«01_k».proof.Proof.FfnBlock

@[expose] public section

set_option maxRecDepth 16384

noncomputable section

namespace Cert.FfnIdeal.Block

open Cert.FfnIdeal Cert.FfnIdeal.Gen Idealize.ShloMosaic Idealize.ShloMosaic.TcCoe

variable (m : (ℓ : Loc nD τ sig) → Buf (Elt Ideal) ℓ)

/-- Where each window stands at point `t`. -/
theorem idx : ∀ t : Fin cfg0.N,
    win0_0.index t = ![t.val / 11, 0] ∧ win0_1.index t = ![t.val / 11, 0] ∧ win0_2.index t = ![t.val / 11, 0]
      ∧ win0_3.index t = ![0, 0] ∧ win0_4.index t = ![0, 0] ∧ win0_5.index t = ![0, 0]
      ∧ win0_6.index t = ![0, t.val % 11] ∧ win0_7.index t = ![0, t.val % 11] ∧ win0_8.index t = ![t.val % 11, 0]
      ∧ win0_9.index t = ![0, 0] :=
  (by decide +kernel : ∀ t : Fin grid0.N, _)

theorem lt352 (t : Fin cfg0.N) : t.val < 352 := lt_of_lt_of_eq t.isLt N_0

/-- The row of the (flattened) input that row `r` of point `t`'s row block is. -/
abbrev rowOf (t : Fin cfg0.N) (r : Fin 1024) : Fin 32768 :=
  ⟨t.val / 11 * 1024 + r.val, by have := lt352 t; omega⟩

/-- The batch and the position of a row. -/
abbrev bOf (r : Fin 32768) : Fin 8 := ⟨r.val / 4096, by omega⟩
abbrev tOf (r : Fin 32768) : Fin 4096 := ⟨r.val % 4096, by omega⟩

/-- The column of the attention's half that place `k` of the head-permuted order holds. -/
abbrev colOf (k : Fin 512) : Fin 1024 :=
  ⟨512 + (k.val / 64 % 2 * 256 + k.val / 128 * 64 + k.val % 64), by omega⟩

/-- The hidden unit that place `f` of point `t`'s tile is. -/
abbrev unitOf (t : Fin cfg0.N) (f : Fin 256) : Fin 2816 := ⟨t.val % 11 * 256 + f.val, by omega⟩

theorem read0 (c : Dev nD) (t : Fin cfg0.N) (r k : Fin 1024) :
    iblk m c 0 t (ix2 r k)
      = m ((c : Thread nD τ).loc main_arg0) (ix3 (bOf (rowOf t r)) (tOf (rowOf t r)) k) := by
  have hN := lt352 t
  blk_simp [iblk, (idx t).1]
  entry_read
  pointwise
  blk_ext [(idx t).1]

theorem read1 (c : Dev nD) (t : Fin cfg0.N) (r : Fin 1024) (k : Fin 512) :
    iblk m c 1 t (ix2 r k)
      = m ((c : Thread nD τ).loc main_arg1) (ix3 (bOf (rowOf t r)) (tOf (rowOf t r)) ⟨k.val, by omega⟩) := by
  have hN := lt352 t
  blk_simp [iblk, (idx t).2.1]
  entry_read
  pointwise
  blk_ext [(idx t).2.1]

theorem read2 (c : Dev nD) (t : Fin cfg0.N) (r : Fin 1024) (k : Fin 512) :
    iblk m c 2 t (ix2 r k)
      = m ((c : Thread nD τ).loc main_arg1) (ix3 (bOf (rowOf t r)) (tOf (rowOf t r)) (colOf k)) := by
  have hN := lt352 t
  blk_simp [iblk, (idx t).2.2.1]
  entry_read
  pointwise
  blk_ext [(idx t).2.2.1]

theorem read3 (c : Dev nD) (t : Fin cfg0.N) (k : Fin 512) (j : Fin 1024) :
    iblk m c 3 t (ix2 k j)
      = m ((c : Thread nD τ).loc main_arg2) (ix3 0 ⟨k.val, by omega⟩ j) := by
  have hN := lt352 t
  blk_simp [iblk, (idx t).2.2.2.1]
  entry_read
  pointwise
  blk_ext [(idx t).2.2.2.1]

theorem read4 (c : Dev nD) (t : Fin cfg0.N) (k : Fin 512) (j : Fin 1024) :
    iblk m c 4 t (ix2 k j)
      = m ((c : Thread nD τ).loc main_arg2) (ix3 0 (colOf k) j) := by
  have hN := lt352 t
  blk_simp [iblk, (idx t).2.2.2.2.1]
  entry_read
  pointwise
  blk_ext [(idx t).2.2.2.2.1]

theorem read5 (c : Dev nD) (t : Fin cfg0.N) (j : Fin 1024) :
    iblk m c 5 t (ix2 0 j)
      = m ((c : Thread nD τ).loc main_arg3) (ix2 0 j) := by
  have hN := lt352 t
  blk_simp [iblk, (idx t).2.2.2.2.2.1]
  entry_read
  pointwise
  blk_ext [(idx t).2.2.2.2.2.1]

theorem read6 (c : Dev nD) (t : Fin cfg0.N) (k : Fin 1024) (f : Fin 256) :
    iblk m c 6 t (ix2 k f)
      = m ((c : Thread nD τ).loc main_arg4) (ix3 0 k (unitOf t f)) := by
  have hN := lt352 t
  blk_simp [iblk, (idx t).2.2.2.2.2.2.1]
  entry_read
  pointwise
  blk_ext [(idx t).2.2.2.2.2.2.1]

theorem read7 (c : Dev nD) (t : Fin cfg0.N) (k : Fin 1024) (f : Fin 256) :
    iblk m c 7 t (ix2 k f)
      = m ((c : Thread nD τ).loc main_arg5) (ix3 0 k (unitOf t f)) := by
  have hN := lt352 t
  blk_simp [iblk, (idx t).2.2.2.2.2.2.2.1]
  entry_read
  pointwise
  blk_ext [(idx t).2.2.2.2.2.2.2.1]

theorem read8 (c : Dev nD) (t : Fin cfg0.N) (f : Fin 256) (j : Fin 1024) :
    iblk m c 8 t (ix2 f j)
      = m ((c : Thread nD τ).loc main_arg6) (ix3 0 (unitOf t f) j) := by
  have hN := lt352 t
  blk_simp [iblk, (idx t).2.2.2.2.2.2.2.2.1]
  entry_read
  pointwise
  blk_ext [(idx t).2.2.2.2.2.2.2.2.1]

theorem read9 (c : Dev nD) (t : Fin cfg0.N) (j : Fin 1024) :
    iblk m c 9 t (ix2 0 j)
      = m ((c : Thread nD τ).loc main_arg7) (ix1 j) := by
  have hN := lt352 t
  blk_simp [iblk, (idx t).2.2.2.2.2.2.2.2.2]
  entry_read
  pointwise
  blk_ext [(idx t).2.2.2.2.2.2.2.2.2]

end Cert.FfnIdeal.Block

end
-- ==== Proof.FfnArray.lean ====
/- The feed-forward call's result array: row by row the row function of the arguments' rows. The carried buffers hold
   the residual row block, its normalised rows and the partial sums over the hidden tiles met so far. -/
module

public import proofs.«01_k».proof.Proof.FfnPay
public import proofs.«01_k».proof.Proof.FfnReads

@[expose] public section

set_option maxRecDepth 16384

noncomputable section

namespace Cert.FfnIdeal.Block

open Cert.FfnIdeal Cert.FfnIdeal.Gen Idealize.ShloMosaic Idealize.ShloMosaic.TcCoe

variable (m : (ℓ : Loc nD τ sig) → Buf (Elt Ideal) ℓ)

/-- The arguments' rows and matrices. -/
abbrev xRow (c : Dev nD) (r : Fin 32768) (k : Fin 1024) : EReal :=
  m ((c : Thread nD τ).loc main_arg0) (ix3 (bOf r) (tOf r) k)
abbrev oRow (c : Dev nD) (r : Fin 32768) (k : Fin 1024) : EReal :=
  m ((c : Thread nD τ).loc main_arg1) (ix3 (bOf r) (tOf r) k)
abbrev wOut (c : Dev nD) (k j : Fin 1024) : EReal := m ((c : Thread nD τ).loc main_arg2) (ix3 0 k j)
abbrev nrm2 (c : Dev nD) (k : Fin 1024) : EReal := m ((c : Thread nD τ).loc main_arg3) (ix2 0 k)
abbrev w1 (c : Dev nD) (k : Fin 1024) (f : Fin 2816) : EReal := m ((c : Thread nD τ).loc main_arg4) (ix3 0 k f)
abbrev w3 (c : Dev nD) (k : Fin 1024) (f : Fin 2816) : EReal := m ((c : Thread nD τ).loc main_arg5) (ix3 0 k f)
abbrev w2 (c : Dev nD) (f : Fin 2816) (j : Fin 1024) : EReal := m ((c : Thread nD τ).loc main_arg6) (ix3 0 f j)
abbrev nrmF (c : Dev nD) (k : Fin 1024) : EReal := m ((c : Thread nD τ).loc main_arg7) (ix1 k)

/-- Undoing the head permutation: the place at which column `512 + k` stands. -/
def headEquiv : Fin 512 ≃ Fin 512 where
  toFun k := ⟨k.val / 64 % 2 * 256 + k.val / 128 * 64 + k.val % 64, by omega⟩
  invFun k := ⟨k.val / 64 % 4 * 128 + k.val / 256 * 64 + k.val % 64, by omega⟩
  left_inv k := Fin.ext ((by decide +kernel : ∀ k : Fin 512,
    (k.val / 64 % 2 * 256 + k.val / 128 * 64 + k.val % 64) / 64 % 4 * 128
      + (k.val / 64 % 2 * 256 + k.val / 128 * 64 + k.val % 64) / 256 * 64
      + (k.val / 64 % 2 * 256 + k.val / 128 * 64 + k.val % 64) % 64 = k.val) k)
  right_inv k := Fin.ext ((by decide +kernel : ∀ k : Fin 512,
    (k.val / 64 % 4 * 128 + k.val / 256 * 64 + k.val % 64) / 64 % 2 * 256
      + (k.val / 64 % 4 * 128 + k.val / 256 * 64 + k.val % 64) / 128 * 64
      + (k.val / 64 % 4 * 128 + k.val / 256 * 64 + k.val % 64) % 64 = k.val) k)

theorem resid_split (x o : Fin 1024 → EReal) (w : Fin 1024 → Fin 1024 → EReal) (j : Fin 1024) :
    x j + (∑ k : Fin 512, o ⟨k.val, by omega⟩ * w ⟨k.val, by omega⟩ j)
        + ∑ k : Fin 512, o (colOf k) * w (colOf k) j
      = FfnSpec.resid x o w j := by
  unfold FfnSpec.resid
  rw [Fin.sum_univ_two_halves 512 512 rfl, add_assoc]
  refine congrArg (x j + ·) (congrArg ((∑ k : Fin 512, o ⟨k.val, by omega⟩ * w ⟨k.val, by omega⟩ j) + ·) ?_)
  refine Eq.trans (Finset.sum_congr rfl fun k _ => ?_)
    (Equiv.sum_comp headEquiv (fun k : Fin 512 => o ⟨512 + k.val, by omega⟩ * w ⟨512 + k.val, by omega⟩ j))
  have e : (⟨512 + (headEquiv k).val, by omega⟩ : Fin 1024) = colOf k := rfl
  show _ = o ⟨512 + (headEquiv k).val, by omega⟩ * w ⟨512 + (headEquiv k).val, by omega⟩ j
  rw [e]

theorem hW_apply (c : Dev nD) (t : Fin cfg0.N) (r j : Fin 1024) :
    hW m c t (ix2 r j) = FfnSpec.resid (xRow m c (rowOf t r)) (oRow m c (rowOf t r)) (wOut m c) j := by
  unfold hW
  rw [pay5_apply, ← resid_split]
  simp only [read0, read1, read2, read3, read4]

theorem uW_apply (c : Dev nD) (t : Fin cfg0.N) (r j : Fin 1024) :
    uW m c t (ix2 r j)
      = FfnSpec.norm (FfnSpec.resid (xRow m c (rowOf t r)) (oRow m c (rowOf t r)) (wOut m c)) (nrm2 m c) j := by
  unfold uW
  rw [pay6_apply]
  simp only [read5]
  congr 1
  funext i
  exact hW_apply m c t r i

/-- The first point of `t`'s run of eleven. -/
theorem start_lt (t : Fin cfg0.N) : 11 * (t.val / 11) < cfg0.N := by
  have := t.isLt; omega

theorem rowOf_start (t : Fin cfg0.N) (h : 11 * (t.val / 11) < cfg0.N) (r : Fin 1024) :
    rowOf ⟨11 * (t.val / 11), h⟩ r = rowOf t r := by
  apply Fin.ext
  show 11 * (t.val / 11) / 11 * 1024 + r.val = t.val / 11 * 1024 + r.val
  omega

theorem h_eq (c : Dev nD) (t : Fin cfg0.N) (r j : Fin 1024) :
    (outsAt0 m c t.val t.isLt).2.1 (ix2 r j)
      = FfnSpec.resid (xRow m c (rowOf t r)) (oRow m c (rowOf t r)) (wOut m c) j := by
  rw [Pipeline.eq_of_write_hold (fun n h => (outsAt0 m c n h).2.1) 11 (hW m c) (h_A m c) (h_hold m c) t,
    hW_apply, rowOf_start]

theorem u_eq (c : Dev nD) (t : Fin cfg0.N) (r j : Fin 1024) :
    (outsAt0 m c t.val t.isLt).2.2.1 (ix2 r j)
      = FfnSpec.norm (FfnSpec.resid (xRow m c (rowOf t r)) (oRow m c (rowOf t r)) (wOut m c)) (nrm2 m c) j := by
  rw [Pipeline.eq_of_write_hold (fun n h => (outsAt0 m c n h).2.2.1) 11 (uW m c) (u_A m c) (u_hold m c) t,
    uW_apply, rowOf_start]

/-- What point `t` adds to the partial sums. -/
def term (c : Dev nD) (t : Fin cfg0.N) (i : S1024x1024.Idx) : EReal :=
  ∑ f : Fin 256,
    FfnSpec.unit (FfnSpec.norm (FfnSpec.resid (xRow m c (rowOf t (i 0))) (oRow m c (rowOf t (i 0))) (wOut m c)) (nrm2 m c))
      (fun k => w1 m c k (unitOf t f)) (fun k => w3 m c k (unitOf t f)) * w2 m c (unitOf t f) (i 1)

theorem acc_eq (c : Dev nD) (t : Fin cfg0.N) (ht : t.val % 11 = 10) (r j : Fin 1024) :
    (outsAt0 m c t.val t.isLt).2.2.2 (ix2 r j)
      = FfnSpec.mlp (FfnSpec.norm (FfnSpec.resid (xRow m c (rowOf t r)) (oRow m c (rowOf t r)) (wOut m c)) (nrm2 m c))
          (w1 m c) (w3 m c) (w2 m c) j := by
  have e := Pipeline.eq_sum_fin_of_reset_step_apply_of_flush (M := EReal) (ι := S1024x1024.Idx)
    (fun n h => (outsAt0 m c n h).2.2.2) 11 (fun _ => 0) (term m c)
    (fun t h i => by
      obtain ⟨r, j, rfl⟩ : ∃ (r j : Fin 1024), i = ix2 r j := ⟨i 0, i 1, eq_ix2 i⟩
      show (outsAt0 m c t.val t.isLt).2.2.2 (ix2 r j) = _
      rw [acc_A m c t h, pay2_apply, zero_apply]
      simp only [uW_apply, read6, read7, read8]
      rfl)
    (fun t h i => by
      obtain ⟨r, j, rfl⟩ : ∃ (r j : Fin 1024), i = ix2 r j := ⟨i 0, i 1, eq_ix2 i⟩
      show (outsAt0 m c t.val t.isLt).2.2.2 (ix2 r j) = _
      rw [acc_step m c t h, ← u_hold m c t h, pay2_apply]
      simp only [u_eq, read6, read7, read8]
      rfl)
    t ht (ix2 r j)
  refine e.trans ?_
  rw [zero_add]
  unfold FfnSpec.mlp
  refine Fin.sum_mul_add_congr fun s f hl => ?_
  have hr : rowOf (⟨11 * (t.val / 11) + s.val, Pipeline.run_point_lt_of_flush t ht s⟩ : Fin cfg0.N) r = rowOf t r := by
    apply Fin.ext
    show (11 * (t.val / 11) + s.val) / 11 * 1024 + r.val = t.val / 11 * 1024 + r.val
    omega
  have hu : unitOf (⟨11 * (t.val / 11) + s.val, Pipeline.run_point_lt_of_flush t ht s⟩ : Fin cfg0.N) f
      = ⟨s.val * 256 + f.val, hl⟩ := by
    apply Fin.ext
    show (11 * (t.val / 11) + s.val) % 11 * 256 + f.val = s.val * 256 + f.val
    omega
  show FfnSpec.unit (FfnSpec.norm (FfnSpec.resid (xRow m c (rowOf _ r)) (oRow m c (rowOf _ r)) _) _) (fun k => w1 m c k (unitOf _ f))
    (fun k => w3 m c k (unitOf _ f)) * w2 m c (unitOf _ f) j = _
  rw [hr, hu]

theorem out_eq (c : Dev nD) (t : Fin cfg0.N) (ht : t.val % 11 = 10) (r j : Fin 1024) :
    (outsAt0 m c t.val t.isLt).1 (ix2 r j)
      = FfnSpec.row (xRow m c (rowOf t r)) (oRow m c (rowOf t r)) (wOut m c) (nrm2 m c) (w1 m c) (w3 m c) (w2 m c)
          (nrmF m c) j := by
  rw [out_C m c t ht, pay3_apply]
  simp only [h_eq, acc_eq m c t ht, read9]
  rfl

/-- The result array at row `r`, column `j`. -/
theorem G_apply (c : Dev nD) (r : Fin 32768) (j : Fin 1024) :
    Value.G10 m c (ix2 r j)
      = FfnSpec.row (xRow m c r) (oRow m c r) (wOut m c) (nrm2 m c) (w1 m c) (w3 m c) (w2 m c) (nrmF m c) j := by
  have hp : Value.pt10Of (ix2 r j) = 11 * (r.val / 1024) + 10 := by
    show 11 * (1 * (r.val / 1024 - 0) + 1 * (j.val / 1024 - 0)) + 10 = _
    omega
  have hlt : Value.pt10Of (ix2 r j) < cfg0.N := by
    rw [hp]
    have : cfg0.N = 352 := N_0
    omega
  unfold Value.G10
  rw [dif_pos hlt, ← Value.outsAt0_sweep m c _ hlt]
  have hl : Value.loc10Of (ix2 r j) = ix2 (⟨r.val % 1024, by omega⟩ : Fin 1024) j := by
    funext a
    match a with
    | ⟨0, _⟩ => rfl
    | ⟨1, _⟩ => exact Fin.ext (Nat.mod_eq_of_lt j.isLt)
  rw [hl, out_eq m c ⟨_, hlt⟩ (by show Value.pt10Of (ix2 r j) % 11 = 10; omega)]
  have hr : rowOf (⟨Value.pt10Of (ix2 r j), hlt⟩ : Fin cfg0.N) ⟨r.val % 1024, by omega⟩ = r := by
    apply Fin.ext
    show Value.pt10Of (ix2 r j) / 11 * 1024 + r.val % 1024 = r.val
    omega
  rw [hr]

end Cert.FfnIdeal.Block

end
-- ==== Proof.FfnRefValue.lean ====
/- The feed-forward reference's result at one index is the row function of its arguments' rows. -/
module

public import proofs.«01_k».proof.Proof.Gen.FfnRefIdeal.Run
public import proofs.«01_k».proof.Proof.FfnSpec
public import Idealize.ShloMosaic.Lib.Tactic.CleanTypes

@[expose] public section

set_option maxRecDepth 16384

noncomputable section

namespace Cert.FfnRefIdeal.Apply

open Cert.FfnRefIdeal Cert.FfnRefIdeal.Value Idealize.ShloMosaic Idealize.ShloMosaic.TcCoe

theorem ref_apply (m : (ℓ : Loc nD τ sig) → Buf (Elt Ideal) ℓ) (c : Dev nD) (r : Fin 32768) (j : Fin 1024) :
    res_main_v39 (F := Ideal) m c (ix2 r j)
      = FfnSpec.row
          (fun k => m ((c.tc : Thread nD τ).loc main_arg0) (ix3 ⟨r.val / 4096, by omega⟩ ⟨r.val % 4096, by omega⟩ k))
          (fun k => m ((c.tc : Thread nD τ).loc main_arg1) (ix3 ⟨r.val / 4096, by omega⟩ ⟨r.val % 4096, by omega⟩ k))
          (fun k l => m ((c.tc : Thread nD τ).loc main_arg2) (ix3 0 k l))
          (fun k => m ((c.tc : Thread nD τ).loc main_arg3) (ix2 0 k))
          (fun k l => m ((c.tc : Thread nD τ).loc main_arg4) (ix3 0 k l))
          (fun k l => m ((c.tc : Thread nD τ).loc main_arg5) (ix3 0 k l))
          (fun k l => m ((c.tc : Thread nD τ).loc main_arg6) (ix3 0 k l))
          (fun k => m ((c.tc : Thread nD τ).loc main_arg7) (ix1 k)) j := by
  unfold res_main_v39
  clean_types
  pointwise
  rfl

end Cert.FfnRefIdeal.Apply

end
-- ==== Proof.FfnEq.lean ====
/- The two result arrays are equal where the arguments are. -/
module

public import proofs.«01_k».proof.Proof.FfnArray
public import proofs.«01_k».proof.Proof.FfnRefValue

@[expose] public section

noncomputable section

namespace Cert.FfnEq

open Idealize.ShloMosaic Idealize.ShloMosaic.TcCoe

theorem result_eq (m : (ℓ : Loc FfnIdeal.nD FfnIdeal.τ FfnIdeal.sig) → Buf (Elt Ideal) ℓ)
    (m' : (ℓ : Loc FfnRefIdeal.nD FfnRefIdeal.τ FfnRefIdeal.sig) → Buf (Elt Ideal) ℓ) (c : Dev FfnIdeal.nD)
    (h0 : m' ((c.tc : Thread FfnRefIdeal.nD FfnRefIdeal.τ).loc FfnRefIdeal.main_arg0) = m ((c.tc : Thread FfnIdeal.nD FfnIdeal.τ).loc FfnIdeal.main_arg0))
    (h1 : m' ((c.tc : Thread FfnRefIdeal.nD FfnRefIdeal.τ).loc FfnRefIdeal.main_arg1) = m ((c.tc : Thread FfnIdeal.nD FfnIdeal.τ).loc FfnIdeal.main_arg1))
    (h2 : m' ((c.tc : Thread FfnRefIdeal.nD FfnRefIdeal.τ).loc FfnRefIdeal.main_arg2) = m ((c.tc : Thread FfnIdeal.nD FfnIdeal.τ).loc FfnIdeal.main_arg2))
    (h3 : m' ((c.tc : Thread FfnRefIdeal.nD FfnRefIdeal.τ).loc FfnRefIdeal.main_arg3) = m ((c.tc : Thread FfnIdeal.nD FfnIdeal.τ).loc FfnIdeal.main_arg3))
    (h4 : m' ((c.tc : Thread FfnRefIdeal.nD FfnRefIdeal.τ).loc FfnRefIdeal.main_arg4) = m ((c.tc : Thread FfnIdeal.nD FfnIdeal.τ).loc FfnIdeal.main_arg4))
    (h5 : m' ((c.tc : Thread FfnRefIdeal.nD FfnRefIdeal.τ).loc FfnRefIdeal.main_arg5) = m ((c.tc : Thread FfnIdeal.nD FfnIdeal.τ).loc FfnIdeal.main_arg5))
    (h6 : m' ((c.tc : Thread FfnRefIdeal.nD FfnRefIdeal.τ).loc FfnRefIdeal.main_arg6) = m ((c.tc : Thread FfnIdeal.nD FfnIdeal.τ).loc FfnIdeal.main_arg6))
    (h7 : m' ((c.tc : Thread FfnRefIdeal.nD FfnRefIdeal.τ).loc FfnRefIdeal.main_arg7) = m ((c.tc : Thread FfnIdeal.nD FfnIdeal.τ).loc FfnIdeal.main_arg7)) :
    (FfnRefIdeal.Value.res_out0 (F := Ideal) m' c : FfnIdeal.S32768x1024.Idx → EReal) = FfnIdeal.Value.G10 m c := by
  funext i
  obtain ⟨r, j, rfl⟩ : ∃ (r : Fin 32768) (j : Fin 1024), i = ix2 r j := ⟨i 0, i 1, eq_ix2 i⟩
  rw [FfnIdeal.Block.G_apply]
  refine (FfnRefIdeal.Apply.ref_apply m' c r j).trans ?_
  rw [h0, h1, h2, h3, h4, h5, h6, h7]

end Cert.FfnEq

end
-- ==== Proof.ProjSpec.lean ====
/- The projection of the layer on one row, written over the extended reals: the normalised row times the weight's
   columns, and the rotary embedding of a head's 64 columns. Both programs are read as this. -/
module

public import proofs.«01_k».proof.Proof.FfnSpec

@[expose] public section

noncomputable section

namespace Cert.ProjSpec

open Idealize.ShloMosaic

/-- Column `j` of the projected row. -/
def col (x n : Fin 1024 → EReal) (w : Fin 1024 → Fin 3096 → EReal) (j : Fin 3096) : EReal :=
  ∑ k : Fin 1024, FfnSpec.norm x n k * w k j

/-- The rotation frequency of pair `e`. -/
def freq (e : Fin 32) : EReal :=
  Ideal.pow (Ideal.ofBits .f32 0x461C4000#32)
    (Ideal.div (-FloatOps.sitofp (F := Ideal) .f32 (BitVec.ofNat 32 e.val)) (Ideal.ofBits .f32 0x42000000#32))

/-- The angle of pair `e` at position `p`. -/
def ang (p : BitVec 32) (e : Fin 32) : EReal := FloatOps.sitofp (F := Ideal) .f32 p * freq e

/-- Entry `d` of the head `v` rotated by the position's angles: the first half turns against the second. -/
def rope (v : Fin 64 → EReal) (p : BitVec 32) (d : Fin 64) : EReal :=
  if h : d.val < 32 then
    v d * Ideal.cos (ang p ⟨d.val, h⟩) - v ⟨d.val + 32, by omega⟩ * Ideal.sin (ang p ⟨d.val, h⟩)
  else
    v d * Ideal.cos (ang p ⟨d.val - 32, by omega⟩) + v ⟨d.val - 32, by omega⟩ * Ideal.sin (ang p ⟨d.val - 32, by omega⟩)

/-- The head whose columns begin at `o`, rotated. -/
def head (x n : Fin 1024 → EReal) (w : Fin 1024 → Fin 3096 → EReal) (p : BitVec 32) (o : ℕ) (ho : o + 64 ≤ 3096)
    (d : Fin 64) : EReal :=
  rope (fun e => col x n w ⟨o + e.val, by omega⟩) p d

/-- The 128 columns of two key heads beginning at `o`, rotated. -/
def pair (x n : Fin 1024 → EReal) (w : Fin 1024 → Fin 3096 → EReal) (p : BitVec 32) (o : ℕ) (ho : o + 128 ≤ 3096)
    (l : Fin 128) : EReal :=
  head x n w p (o + l.val / 64 * 64) (by omega) ⟨l.val % 64, by omega⟩

/-- A query head's 128 lanes: its rotated entries, scaled, at its own key group's half, zeros at the other. -/
def query (x n : Fin 1024 → EReal) (w : Fin 1024 → Fin 3096 → EReal) (p : BitVec 32) (h : Fin 8) (l : Fin 128) : EReal :=
  if l.val / 64 = h.val / 4 then
    head x n w p (1792 + h.val * 64) (by omega) ⟨l.val % 64, by omega⟩ * Ideal.ofBits .f32 0x3E38AA3B#32
  else 0

/-- The gates' logits, with zeros after the last. -/
def gate (x n : Fin 1024 → EReal) (w : Fin 1024 → Fin 3096 → EReal) (l : Fin 128) : EReal :=
  if h : l.val < 24 then col x n w ⟨3072 + l.val, by omega⟩ else 0

theorem head_congr (x n : Fin 1024 → EReal) (w : Fin 1024 → Fin 3096 → EReal) (p : BitVec 32) (o o' : ℕ)
    (ho : o + 64 ≤ 3096) (ho' : o' + 64 ≤ 3096) (e : o = o') (d : Fin 64) : head x n w p o ho d = head x n w p o' ho' d := by
  subst e; rfl

theorem head_lo (x n : Fin 1024 → EReal) (w : Fin 1024 → Fin 3096 → EReal) (p : BitVec 32) (o : ℕ) (ho : o + 64 ≤ 3096)
    (d : Fin 64) (hd : d.val < 32) (a b : Fin 3096) (ha : a.val = o + d.val) (hb : b.val = o + (d.val + 32)) :
    col x n w a * Ideal.cos (ang p ⟨d.val, hd⟩) - col x n w b * Ideal.sin (ang p ⟨d.val, hd⟩) = head x n w p o ho d := by
  obtain ⟨a, _⟩ := a
  obtain ⟨b, _⟩ := b
  dsimp only at ha hb
  subst ha hb
  unfold head rope
  rw [dif_pos hd]

theorem head_hi (x n : Fin 1024 → EReal) (w : Fin 1024 → Fin 3096 → EReal) (p : BitVec 32) (o : ℕ) (ho : o + 64 ≤ 3096)
    (d : Fin 64) (hd : ¬ d.val < 32) (a b : Fin 3096) (ha : a.val = o + d.val) (hb : b.val = o + (d.val - 32)) :
    col x n w a * Ideal.cos (ang p ⟨d.val - 32, by omega⟩) + col x n w b * Ideal.sin (ang p ⟨d.val - 32, by omega⟩)
      = head x n w p o ho d := by
  obtain ⟨a, _⟩ := a
  obtain ⟨b, _⟩ := b
  dsimp only at ha hb
  subst ha hb
  unfold head rope
  rw [dif_neg hd]

theorem pair_eq (x n : Fin 1024 → EReal) (w : Fin 1024 → Fin 3096 → EReal) (p : BitVec 32) (o : ℕ) (ho : o + 128 ≤ 3096)
    (l : Fin 128) (o' : ℕ) (ho' : o' + 64 ≤ 3096) (e : o' = o + l.val / 64 * 64) (d : Fin 64) (hd : d.val = l.val % 64) :
    head x n w p o' ho' d = pair x n w p o ho l := by
  subst e
  obtain ⟨d, _⟩ := d
  dsimp only at hd
  subst hd
  rfl

theorem query_eq (x n : Fin 1024 → EReal) (w : Fin 1024 → Fin 3096 → EReal) (p : BitVec 32) (h : Fin 8) (l : Fin 128)
    (hh : l.val / 64 = h.val / 4) (o : ℕ) (ho : o + 64 ≤ 3096) (e : o = 1792 + h.val * 64) (d : Fin 64)
    (hd : d.val = l.val % 64) : head x n w p o ho d * Ideal.ofBits .f32 0x3E38AA3B#32 = query x n w p h l := by
  subst e
  obtain ⟨d, _⟩ := d
  dsimp only at hd
  subst hd
  unfold query
  rw [if_pos hh]

theorem query_zero (x n : Fin 1024 → EReal) (w : Fin 1024 → Fin 3096 → EReal) (p : BitVec 32) (h : Fin 8) (l : Fin 128)
    (hh : ¬ l.val / 64 = h.val / 4) : (0 : EReal) = query x n w p h l := by
  unfold query
  rw [if_neg hh]

end Cert.ProjSpec

end
-- ==== Proof.ProjEntry.lean ====
/- What each array the projection call reads holds when the call starts, as elements of the arguments: the rows, the
   norm's weight, the packed weight, the positions, and the two tables of lanes. -/
module

public import proofs.«01_k».proof.Proof.Gen.ProjIdeal.Value
public import proofs.«01_k».proof.Proof.ProjSpec
public import Idealize.ShloMosaic.Lib.Pipeline.ValueKit

@[expose] public section

set_option maxRecDepth 16384

noncomputable section

namespace Cert.ProjIdeal.Block

open Cert.ProjIdeal Cert.ProjIdeal.Gen Idealize.ShloMosaic Idealize.ShloMosaic.TcCoe

variable (m : (ℓ : Loc nD τ sig) → Buf (Elt Ideal) ℓ) (c : Dev nD)

abbrev xAt (b : Fin 8) (t : Fin 4096) (k : Fin 1024) : EReal := m ((c.tc : Thread nD τ).loc main_arg0) (ix3 b t k)
abbrev pAt (b : Fin 8) (t : Fin 4096) : BitVec 32 := m ((c.tc : Thread nD τ).loc main_arg1) (ix2 b t)
abbrev nrm (k : Fin 1024) : EReal := m ((c.tc : Thread nD τ).loc main_arg2) (ix2 0 k)
abbrev wgt (k : Fin 1024) (j : Fin 3096) : EReal := m ((c.tc : Thread nD τ).loc main_arg3) (ix3 0 k j)

/-- What a buffer holds when the call starts. -/
abbrev entry (b : Ref sig .tc) :=
  StableHlo.after (List.flatten [hostOps0, hostOps0_1, hostOps0_2, hostOps0_3, hostOps0_4, hostOps0_5, hostOps0_6,
    hostOps0_7, hostOps0_8, hostOps0_9, hostOps0_10]) (fun b => m (c, b)) (Proc.devRef .tc b)

/-- What a buffer holds when the packed weight's parts stand ready. -/
abbrev mid : Valuation τ sig (Elt Ideal) :=
  StableHlo.after (List.flatten [hostOps0, hostOps0_1, hostOps0_2, hostOps0_3, hostOps0_4, hostOps0_5])
    (fun b => m (c, b))

theorem entry_x (r : Fin 32768) (k : Fin 1024) :
    (entry m c main_v0 (ix2 r k) : EReal) = xAt m c ⟨r.val / 4096, by omega⟩ ⟨r.val % 4096, by omega⟩ k := by
  unfold entry
  simp only [List.flatten_cons, List.flatten_nil, List.append_nil, StableHlo.after_append]
  simp only [hostOps0, hostOps0_1, hostOps0_2, hostOps0_3, hostOps0_4, hostOps0_5,
    hostOps0_6, hostOps0_7, hostOps0_8, hostOps0_9, hostOps0_10, StableHlo.TRef.nullary,
    StableHlo.TRef.unary, StableHlo.TRef.binary, StableHlo.TRef.ternary, StableHlo.TRef.toBuf, StableHlo.TRef.ofBuf, cast_eq]
  after_results_simp
  pointwise

theorem entry_n (k : Fin 1024) : (entry m c main_v44 (ix2 0 k) : EReal) = nrm m c k := by
  unfold entry
  simp only [List.flatten_cons, List.flatten_nil, List.append_nil, StableHlo.after_append]
  simp only [hostOps0, hostOps0_1, hostOps0_2, hostOps0_3, hostOps0_4, hostOps0_5,
    hostOps0_6, hostOps0_7, hostOps0_8, hostOps0_9, hostOps0_10, StableHlo.TRef.nullary,
    StableHlo.TRef.unary, StableHlo.TRef.binary, StableHlo.TRef.ternary, StableHlo.TRef.toBuf, StableHlo.TRef.ofBuf, cast_eq]
  after_results_simp
  pointwise

theorem entry_p (r : Fin 32768) :
    (entry m c main_v45 (ix2 r 0) : BitVec 32) = pAt m c ⟨r.val / 4096, by omega⟩ ⟨r.val % 4096, by omega⟩ := by
  unfold entry
  simp only [List.flatten_cons, List.flatten_nil, List.append_nil, StableHlo.after_append]
  simp only [hostOps0, hostOps0_1, hostOps0_2, hostOps0_3, hostOps0_4, hostOps0_5,
    hostOps0_6, hostOps0_7, hostOps0_8, hostOps0_9, hostOps0_10, StableHlo.TRef.nullary,
    StableHlo.TRef.unary, StableHlo.TRef.binary, StableHlo.TRef.ternary, StableHlo.TRef.toBuf, StableHlo.TRef.ofBuf, cast_eq]
  after_results_simp
  pointwise

theorem entry_f (l : Fin 128) : (entry m c main_v36 (ix2 0 l) : EReal) = ProjSpec.freq ⟨l.val % 32, by omega⟩ := by
  unfold entry
  simp only [List.flatten_cons, List.flatten_nil, List.append_nil, StableHlo.after_append]
  simp only [hostOps0, hostOps0_1, hostOps0_2, hostOps0_3, hostOps0_4, hostOps0_5,
    hostOps0_6, hostOps0_7, hostOps0_8, hostOps0_9, hostOps0_10, StableHlo.TRef.nullary,
    StableHlo.TRef.unary, StableHlo.TRef.binary, StableHlo.TRef.ternary, StableHlo.TRef.toBuf, StableHlo.TRef.ofBuf, cast_eq]
  after_results_simp
  pointwise
  rfl

theorem ofBits_neg_one : Ideal.ofBits .f32 3212836864#32 = -1 := by
  rw [show (-1 : EReal) = ((-1 : ℝ) : EReal) by rw [EReal.coe_neg, EReal.coe_one]]
  simp [Ideal.ofBits, Ideal.ieee, -EReal.coe_mul, -EReal.coe_neg]; norm_num

/-- The word that says whether a lane lies in the first half of its head. -/
theorem lane_word : ∀ l : Fin 128,
    IntOp.cmpi CmpIPredicate.slt
        (Scalar.select
          (IntOp.andi
            (IntOp.cmpi CmpIPredicate.ne
              (IntOp.cmpi CmpIPredicate.slt
                (IntOp.remsi ArithUnit.host (BitVec.ofNat 32 l.val)
                  (Scalar.select (IntOp.cmpi CmpIPredicate.eq 64#32 0#32) 1#32 64#32))
                0#32)
              (IntOp.cmpi CmpIPredicate.slt (Scalar.select (IntOp.cmpi CmpIPredicate.eq 64#32 0#32) 1#32 64#32) 0#32))
            (IntOp.cmpi CmpIPredicate.ne
              (IntOp.remsi ArithUnit.host (BitVec.ofNat 32 l.val)
                (Scalar.select (IntOp.cmpi CmpIPredicate.eq 64#32 0#32) 1#32 64#32))
              0#32))
          (IntOp.addi
            (IntOp.remsi ArithUnit.host (BitVec.ofNat 32 l.val)
              (Scalar.select (IntOp.cmpi CmpIPredicate.eq 64#32 0#32) 1#32 64#32))
            (Scalar.select (IntOp.cmpi CmpIPredicate.eq 64#32 0#32) 1#32 64#32))
          (IntOp.remsi ArithUnit.host (BitVec.ofNat 32 l.val)
            (Scalar.select (IntOp.cmpi CmpIPredicate.eq 64#32 0#32) 1#32 64#32)))
        32#32 = if l.val % 64 < 32 then 1#1 else 0#1 := by
  decide +kernel

theorem entry_s (l : Fin 128) :
    (entry m c main_v43 (ix2 0 l) : EReal) = ((if l.val % 64 < 32 then -1 else 1 : EReal)) := by
  unfold entry
  simp only [List.flatten_cons, List.flatten_nil, List.append_nil, StableHlo.after_append]
  simp only [hostOps0, hostOps0_1, hostOps0_2, hostOps0_3, hostOps0_4, hostOps0_5,
    hostOps0_6, hostOps0_7, hostOps0_8, hostOps0_9, hostOps0_10, StableHlo.TRef.nullary,
    StableHlo.TRef.unary, StableHlo.TRef.binary, StableHlo.TRef.ternary, StableHlo.TRef.toBuf, StableHlo.TRef.ofBuf, cast_eq]
  after_results_simp
  pointwise
  simp only [id]
  pointwise
  rw [lane_word l, ofBits_neg_one]
  split <;> rfl

theorem mid_y (k : Fin 1024) (j : Fin 1792) :
    (mid m c (Proc.devRef .tc main_v3) (ix2 k j) : EReal) = wgt m c k ⟨j.val, by omega⟩ := by
  unfold mid
  simp only [List.flatten_cons, List.flatten_nil, List.append_nil, StableHlo.after_append]
  simp only [hostOps0, hostOps0_1, hostOps0_2, hostOps0_3, hostOps0_4, hostOps0_5, StableHlo.TRef.nullary,
    StableHlo.TRef.unary, StableHlo.TRef.binary, StableHlo.TRef.ternary, StableHlo.TRef.toBuf, StableHlo.TRef.ofBuf, cast_eq]
  after_results_simp
  pointwise

theorem select_true {α : Type} (a b : α) : Scalar.select 1#1 a b = a := rfl

theorem select_false {α : Type} (a b : α) : Scalar.select 0#1 a b = b := rfl

theorem half_select (g p : ℕ) (hg : g < 2) (hp : p < 2) (v : EReal) (a : p < 1 → EReal) (b : ¬ p < 1 → EReal)
    (ha : ∀ h, a h = v) (hb : ∀ h, b h = v) :
    (if h : p < 1 then Scalar.select (IntOp.cmpi CmpIPredicate.eq (BitVec.ofNat 32 g) 0#32) (a h) 0
      else Scalar.select (IntOp.cmpi CmpIPredicate.eq (BitVec.ofNat 32 g) 1#32) (b h) 0) = if p = g then v else 0 := by
  obtain rfl : a = fun _ => v := funext ha
  obtain rfl : b = fun _ => v := funext hb
  have h0 : p = 0 ∨ p = 1 := by omega
  have h1 : g = 0 ∨ g = 1 := by omega
  rcases h0 with rfl | rfl <;> rcases h1 with rfl | rfl
  · exact select_true v 0
  · exact select_false v 0
  · exact select_false v 0
  · exact select_true v 0

theorem column_eq (j : ℕ) (h : j < 1024) :
    1792 + (j / 512 * 256 + j / 128 % 4 * 64 + j % 64) = 1792 + (j / 128 * 64 + j % 64) := by omega

theorem mid_q (k : Fin 1024) (j : Fin 1024) :
    (mid m c (Proc.devRef .tc main_v20) (ix2 k j) : EReal)
      = if j.val / 64 % 2 = j.val / 512 then wgt m c k ⟨1792 + (j.val / 128 * 64 + j.val % 64), by omega⟩ else 0 := by
  unfold mid
  simp only [List.flatten_cons, List.flatten_nil, List.append_nil, StableHlo.after_append]
  simp only [hostOps0, hostOps0_1, hostOps0_2, hostOps0_3, hostOps0_4, hostOps0_5, StableHlo.TRef.nullary,
    StableHlo.TRef.unary, StableHlo.TRef.binary, StableHlo.TRef.ternary, StableHlo.TRef.toBuf, StableHlo.TRef.ofBuf, cast_eq]
  after_results_simp
  pointwise
  after_results_simp
  pointwise

  refine half_select (j.val / 512) (j.val / 64 % 2) (by omega) (by omega) _ _ _ (fun h => ?_) (fun h => ?_)
  · exact congrArg (wgt m c k) (Fin.ext (column_eq j.val j.isLt))
  · exact congrArg (wgt m c k) (Fin.ext (column_eq j.val j.isLt))

theorem mid_k (k : Fin 1024) (j : Fin 768) :
    (mid m c (Proc.devRef .tc main_v21) (ix2 k j) : EReal) = wgt m c k ⟨2304 + j.val, by omega⟩ := by
  unfold mid
  simp only [List.flatten_cons, List.flatten_nil, List.append_nil, StableHlo.after_append]
  simp only [hostOps0, hostOps0_1, hostOps0_2, hostOps0_3, hostOps0_4, hostOps0_5, StableHlo.TRef.nullary,
    StableHlo.TRef.unary, StableHlo.TRef.binary, StableHlo.TRef.ternary, StableHlo.TRef.toBuf, StableHlo.TRef.ofBuf, cast_eq]
  after_results_simp
  pointwise

theorem sitofp_zero : FloatOps.sitofp (F := Ideal) .f32 (0#32 : BitVec 32) = (0 : EReal) := by
  show (((0#32 : BitVec 32).toInt : ℝ) : EReal) = 0
  simp

theorem mid_g (k : Fin 1024) (j : Fin 128) :
    (mid m c (Proc.devRef .tc main_v23) (ix2 k j) : EReal)
      = if h : j.val < 24 then wgt m c k ⟨3072 + j.val, by omega⟩ else 0 := by
  unfold mid
  simp only [List.flatten_cons, List.flatten_nil, List.append_nil, StableHlo.after_append]
  simp only [hostOps0, hostOps0_1, hostOps0_2, hostOps0_3, hostOps0_4, hostOps0_5, StableHlo.TRef.nullary,
    StableHlo.TRef.unary, StableHlo.TRef.binary, StableHlo.TRef.ternary, StableHlo.TRef.toBuf, StableHlo.TRef.ofBuf, cast_eq]
  after_results_simp
  pointwise
  rw [sitofp_zero]

/-- The packed weight is the concatenation of its four parts. -/
theorem cat_w (W : Valuation τ sig (Elt Ideal)) (k : Fin 1024) (j : Fin 3712) :
    (StableHlo.after (List.flatten [hostOps0_6, hostOps0_7, hostOps0_8, hostOps0_9, hostOps0_10]) W
        (Proc.devRef .tc main_v25) (ix2 k j) : EReal)
      = if h : j.val < 1792 then W (Proc.devRef .tc main_v3) (ix2 k ⟨j.val, h⟩)
        else if h' : j.val - 1792 < 1024 then W (Proc.devRef .tc main_v20) (ix2 k ⟨j.val - 1792, h'⟩)
        else if h'' : j.val - 1792 - 1024 < 768 then W (Proc.devRef .tc main_v21) (ix2 k ⟨j.val - 1792 - 1024, h''⟩)
        else W (Proc.devRef .tc main_v23) (ix2 k ⟨j.val - 1792 - 1024 - 768, by omega⟩) := by
  simp only [List.flatten_cons, List.flatten_nil, List.append_nil, StableHlo.after_append]
  simp only [hostOps0_6, hostOps0_7, hostOps0_8, hostOps0_9, hostOps0_10, StableHlo.TRef.nullary,
    StableHlo.TRef.unary, StableHlo.TRef.binary, StableHlo.TRef.ternary, StableHlo.TRef.toBuf, StableHlo.TRef.ofBuf, cast_eq]
  after_results_simp
  pointwise

theorem entry_w (k : Fin 1024) (j : Fin 3712) :
    (entry m c main_v25 (ix2 k j) : EReal)
      = if h : j.val < 1792 then (mid m c (Proc.devRef .tc main_v3) (ix2 k ⟨j.val, h⟩) : EReal)
        else if h' : j.val - 1792 < 1024 then mid m c (Proc.devRef .tc main_v20) (ix2 k ⟨j.val - 1792, h'⟩)
        else if h'' : j.val - 1792 - 1024 < 768 then
          mid m c (Proc.devRef .tc main_v21) (ix2 k ⟨j.val - 1792 - 1024, h''⟩)
        else mid m c (Proc.devRef .tc main_v23) (ix2 k ⟨j.val - 1792 - 1024 - 768, by omega⟩) := by
  rw [← cat_w (mid m c) k j]
  unfold mid
  rw [← StableHlo.after_append]
  rfl

end Cert.ProjIdeal.Block

end
-- ==== Proof.ProjReads.lean ====
/- Each input block of the projection call read at an index, as an element of an argument. -/
module

public import proofs.«01_k».proof.Proof.ProjEntry

@[expose] public section

set_option maxRecDepth 16384

noncomputable section

namespace Cert.ProjIdeal.Block

open Cert.ProjIdeal Cert.ProjIdeal.Gen Idealize.ShloMosaic Idealize.ShloMosaic.TcCoe

variable (m : (ℓ : Loc nD τ sig) → Buf (Elt Ideal) ℓ) (c : Dev nD) (t : Fin cfg0.N)

/-- Where each input window stands at point `t`. -/
theorem idx : ∀ t : Fin cfg0.N,
    win0_0.index t = ![t.val, 0] ∧ win0_1.index t = ![0, 0] ∧ win0_2.index t = ![0, 0]
      ∧ win0_3.index t = ![t.val, 0] ∧ win0_4.index t = ![0, 0] ∧ win0_5.index t = ![0, 0] :=
  (by decide +kernel : ∀ t : Fin grid0.N, _)

theorem lt32 (t : Fin cfg0.N) : t.val < 32 := lt_of_lt_of_eq t.isLt N_0

/-- The batch and the position of row `r` of point `t`'s block. -/
abbrev bOf (t : Fin cfg0.N) (r : Fin 1024) : Fin 8 := ⟨(t.val * 1024 + r.val) / 4096, by have := lt32 t; omega⟩
abbrev tOf (t : Fin cfg0.N) (r : Fin 1024) : Fin 4096 := ⟨(t.val * 1024 + r.val) % 4096, by omega⟩

theorem read_x (r k : Fin 1024) : (iblk m c 0 t (ix2 r k) : EReal) = xAt m c (bOf t r) (tOf t r) k := by
  have hN := lt32 t
  rw [← entry_x m c ⟨t.val * 1024 + r.val, by omega⟩ k]
  blk_simp [iblk, (idx t).1]
  refine congrArg (entry m c main_v0) ?_
  blk_ext [(idx t).1]

theorem read_n (k : Fin 1024) : (iblk m c 1 t (ix2 0 k) : EReal) = nrm m c k := by
  have hN := lt32 t
  rw [← entry_n m c k]
  blk_simp [iblk, (idx t).2.1]
  refine congrArg (entry m c main_v44) ?_
  blk_ext [(idx t).2.1]

theorem read_w (k : Fin 1024) (j : Fin 3712) : (iblk m c 2 t (ix2 k j) : EReal) = entry m c main_v25 (ix2 k j) := by
  have hN := lt32 t
  blk_simp [iblk, (idx t).2.2.1]
  refine congrArg (entry m c main_v25) ?_
  blk_ext [(idx t).2.2.1]

theorem read_p (r : Fin 1024) : (iblk m c 3 t (ix2 r 0) : BitVec 32) = pAt m c (bOf t r) (tOf t r) := by
  have hN := lt32 t
  rw [← entry_p m c ⟨t.val * 1024 + r.val, by omega⟩]
  blk_simp [iblk, (idx t).2.2.2.1]
  refine congrArg (entry m c main_v45) ?_
  blk_ext [(idx t).2.2.2.1]

theorem read_f (l : Fin 128) : (iblk m c 4 t (ix2 0 l) : EReal) = ProjSpec.freq ⟨l.val % 32, by omega⟩ := by
  have hN := lt32 t
  rw [← entry_f m c l]
  blk_simp [iblk, (idx t).2.2.2.2.1]
  refine congrArg (entry m c main_v36) ?_
  blk_ext [(idx t).2.2.2.2.1]

theorem read_s (l : Fin 128) : (iblk m c 5 t (ix2 0 l) : EReal) = ((if l.val % 64 < 32 then -1 else 1 : EReal)) := by
  have hN := lt32 t
  rw [← entry_s m c l]
  blk_simp [iblk, (idx t).2.2.2.2.2]
  refine congrArg (entry m c main_v43) ?_
  blk_ext [(idx t).2.2.2.2.2]

/-- The packed weight's columns: the recurrence's, the queries' in their padded lanes, the keys' and values', and the
    gates' with zeros after the last. -/
theorem w_y (k : Fin 1024) (j : Fin 3712) (h : j.val < 1792) :
    (iblk m c 2 t (ix2 k j) : EReal) = wgt m c k ⟨j.val, by omega⟩ := by
  rw [read_w, entry_w, dif_pos h, mid_y]

theorem w_q (k : Fin 1024) (j : Fin 3712) (h : 1792 ≤ j.val) (h' : j.val < 2816) :
    (iblk m c 2 t (ix2 k j) : EReal)
      = if (j.val - 1792) / 64 % 2 = (j.val - 1792) / 512 then
          wgt m c k ⟨1792 + ((j.val - 1792) / 128 * 64 + (j.val - 1792) % 64), by omega⟩
        else 0 := by
  rw [read_w, entry_w, dif_neg (by omega), dif_pos (by omega), mid_q]

theorem w_k (k : Fin 1024) (j : Fin 3712) (h : 2816 ≤ j.val) (h' : j.val < 3584) :
    (iblk m c 2 t (ix2 k j) : EReal) = wgt m c k ⟨j.val - 512, by omega⟩ := by
  rw [read_w, entry_w, dif_neg (by omega), dif_neg (by omega), dif_pos (by omega), mid_k]
  refine congrArg (wgt m c k) (Fin.ext ?_)
  dsimp only
  omega

theorem w_g (k : Fin 1024) (j : Fin 3712) (h : 3584 ≤ j.val) :
    (iblk m c 2 t (ix2 k j) : EReal)
      = if h : j.val - 3584 < 24 then wgt m c k ⟨3072 + (j.val - 3584), by omega⟩ else 0 := by
  rw [read_w, entry_w, dif_neg (by omega), dif_neg (by omega), dif_neg (by omega), mid_g]
  by_cases g : j.val - 3584 < 24
  · rw [dif_pos g, dif_pos (by omega)]
    refine congrArg (wgt m c k) (Fin.ext ?_)
    dsimp only
    omega
  · rw [dif_neg g, dif_neg (by omega)]

end Cert.ProjIdeal.Block

end
-- ==== Proof.ProjPay.lean ====
/- The projection call's columns at one row of a block, over the extended reals: the projected columns, and a lane of
   two heads rotated by a turn of the lanes and a mask. -/
module

public import proofs.«01_k».proof.Proof.ProjReads

@[expose] public section

set_option maxRecDepth 16384

noncomputable section

namespace Cert.ProjIdeal.Block

open Cert.ProjIdeal Cert.ProjIdeal.Gen Idealize.ShloMosaic Idealize.ShloMosaic.TcCoe

theorem pay5_apply (x : Vec Ideal S1024x1024 .f32) (n : Vec Ideal S1x1024 .f32) (r j : Fin 1024) :
    k0_pay5 (F := Ideal) x n (ix2 r j) = FfnSpec.norm (fun i => x (ix2 r i)) (fun i => n (ix2 0 i)) j := by
  pointwise [k0_pay5]
  rfl

theorem pay9_apply (r : Fin 1024) (l : Fin 128) :
    k0_pay9 (iota Kind.tc S1024x128 32 [1] iota_S1024x128_d1_w32) 64#32 0#32 (ix2 r l)
      = if l.val % 64 < 32 then 1#1 else 0#1 := by
  pointwise [k0_pay9]
  revert l
  decide +kernel

/-- Turning the lanes by 32 either way and choosing by the half of the head is the rotation of the head. -/
theorem rope_lane (V : Fin 128 → EReal) (v : Fin 64 → EReal) (P : BitVec 32) (l jl jr : Fin 128)
    (hl : jl.val = (l.val + 128 - 96) % 128) (hr : jr.val = (l.val + 128 - 32) % 128)
    (hv : ∀ e : Fin 64, V ⟨l.val / 64 * 64 + e.val, by omega⟩ = v e) :
    V l * Ideal.cos (ProjSpec.ang P ⟨l.val % 32, by omega⟩)
        + Scalar.select (if l.val % 64 < 32 then 1#1 else 0#1) (V jl) (V jr)
          * (Ideal.sin (ProjSpec.ang P ⟨l.val % 32, by omega⟩) * ((if l.val % 64 < 32 then -1 else 1 : EReal)))
      = ProjSpec.rope v P ⟨l.val % 64, by omega⟩ := by
  have h0 : V l = v ⟨l.val % 64, by omega⟩ := by
    rw [← hv]; exact congrArg V (Fin.ext (by dsimp only; omega))
  unfold ProjSpec.rope
  by_cases h : l.val % 64 < 32
  · have h1 : V jl = v ⟨l.val % 64 + 32, by omega⟩ := by
      rw [← hv]; exact congrArg V (Fin.ext (by dsimp only; omega))
    have ha : ProjSpec.ang P ⟨l.val % 32, by omega⟩ = ProjSpec.ang P ⟨l.val % 64, h⟩ :=
      congrArg (ProjSpec.ang P) (Fin.ext (by dsimp only; omega))
    rw [if_pos h, if_pos h, dif_pos h, select_true, h0, h1, ha, mul_neg, mul_one, mul_neg, sub_eq_add_neg]
  · have h1 : V jr = v ⟨l.val % 64 - 32, by omega⟩ := by
      rw [← hv]; exact congrArg V (Fin.ext (by dsimp only; omega))
    have ha : ProjSpec.ang P ⟨l.val % 32, by omega⟩ = ProjSpec.ang P ⟨l.val % 64 - 32, by omega⟩ :=
      congrArg (ProjSpec.ang P) (Fin.ext (by dsimp only; omega))
    rw [if_neg h, if_neg h, dif_neg h, select_false, h0, h1, ha, mul_one]

theorem rope_zero (P : BitVec 32) (d : Fin 64) : ProjSpec.rope (fun _ => 0) P d = 0 := by
  unfold ProjSpec.rope
  split <;> simp

variable (m : (ℓ : Loc nD τ sig) → Buf (Elt Ideal) ℓ) (c : Dev nD) (t : Fin cfg0.N)

/-- Row `a`'s sum against column `j` of the packed weight. -/
abbrev csum (a : Fin 1024) (j : Fin 3712) : EReal :=
  ∑ k : Fin 1024, FfnSpec.norm (fun i => iblk m c 0 t (ix2 a i)) (fun i => iblk m c 1 t (ix2 0 i)) k
    * (iblk m c 2 t (ix2 k j) : EReal)

/-- Column `j` of the projection at row `a` of the block. -/
abbrev colAt (a : Fin 1024) (j : Fin 3096) : EReal :=
  ProjSpec.col (xAt m c (bOf t a) (tOf t a)) (nrm m c) (wgt m c) j

theorem csum_eq (a : Fin 1024) (j : Fin 3712) :
    csum m c t a j = ∑ k : Fin 1024, FfnSpec.norm (xAt m c (bOf t a) (tOf t a)) (nrm m c) k
      * (iblk m c 2 t (ix2 k j) : EReal) := by
  have hx : (fun i => (iblk m c 0 t (ix2 a i) : EReal)) = xAt m c (bOf t a) (tOf t a) := funext fun i => read_x m c t a i
  have hn : (fun i => (iblk m c 1 t (ix2 0 i) : EReal)) = nrm m c := funext fun i => read_n m c t i
  unfold csum
  rw [hx, hn]

theorem csum_y (a : Fin 1024) (j : Fin 3712) (h : j.val < 1792) :
    csum m c t a j = colAt m c t a ⟨j.val, by omega⟩ := by
  rw [csum_eq]
  exact Finset.sum_congr rfl fun k _ => congrArg (_ * ·) (w_y m c t k j h)

theorem csum_k (a : Fin 1024) (j : Fin 3712) (h : 2816 ≤ j.val) (h' : j.val < 3584) :
    csum m c t a j = colAt m c t a ⟨j.val - 512, by omega⟩ := by
  rw [csum_eq]
  exact Finset.sum_congr rfl fun k _ => congrArg (_ * ·) (w_k m c t k j h h')

theorem csum_q (a : Fin 1024) (j : Fin 3712) (h : 1792 ≤ j.val) (h' : j.val < 2816) :
    csum m c t a j = if (j.val - 1792) / 64 % 2 = (j.val - 1792) / 512 then
        colAt m c t a ⟨1792 + ((j.val - 1792) / 128 * 64 + (j.val - 1792) % 64), by omega⟩ else 0 := by
  rw [csum_eq]
  simp only [w_q m c t _ j h h']
  split
  · rfl
  · simp

theorem csum_g (a : Fin 1024) (j : Fin 3712) (h : 3584 ≤ j.val) :
    csum m c t a j
      = ProjSpec.gate (xAt m c (bOf t a) (tOf t a)) (nrm m c) (wgt m c) ⟨j.val - 3584, by omega⟩ := by
  rw [csum_eq]
  simp only [w_g m c t _ j h]
  unfold ProjSpec.gate
  split
  · rfl
  · simp

/-- A lane of the rotated keys. -/
theorem k_lane (o : ℕ) (ho : 2304 ≤ o) (ho' : o + 128 ≤ 3072) (a : Fin 1024) (l : Fin 128) (j jl jr : Fin 3712) (w : BitVec 1)
    (hw : w = if l.val % 64 < 32 then 1#1 else 0#1)
    (hj : j.val = o + 512 + l.val) (hl : jl.val = o + 512 + (l.val + 128 - 96) % 128)
    (hr : jr.val = o + 512 + (l.val + 128 - 32) % 128) :
    csum m c t a j * Ideal.cos (FloatOps.sitofp (F := Ideal) .f32 (iblk m c 3 t (ix2 a 0) : BitVec 32) * (iblk m c 4 t (ix2 0 l) : EReal))
        + Scalar.select w (csum m c t a jl) (csum m c t a jr)
          * (Ideal.sin (FloatOps.sitofp (F := Ideal) .f32 (iblk m c 3 t (ix2 a 0) : BitVec 32) * (iblk m c 4 t (ix2 0 l) : EReal))
              * (iblk m c 5 t (ix2 0 l) : EReal))
      = ProjSpec.pair (xAt m c (bOf t a) (tOf t a)) (nrm m c) (wgt m c) (pAt m c (bOf t a) (tOf t a)) o (by omega) l := by
  subst hw
  rw [csum_k m c t a j (by omega) (by omega), csum_k m c t a jl (by omega) (by omega),
    csum_k m c t a jr (by omega) (by omega), read_p, read_f, read_s]
  unfold ProjSpec.pair ProjSpec.head
  refine Eq.trans ?_ (rope_lane (fun i => colAt m c t a ⟨o + i.val, by omega⟩)
    (fun e => colAt m c t a ⟨o + l.val / 64 * 64 + e.val, by omega⟩) (pAt m c (bOf t a) (tOf t a)) l
    ⟨(l.val + 128 - 96) % 128, by omega⟩ ⟨(l.val + 128 - 32) % 128, by omega⟩ rfl rfl (fun e => ?_))
  · have e0 : (⟨j.val - 512, by omega⟩ : Fin 3096) = ⟨o + l.val, by omega⟩ := Fin.ext (by dsimp only; omega)
    have e1 : (⟨jl.val - 512, by omega⟩ : Fin 3096) = ⟨o + (l.val + 128 - 96) % 128, by omega⟩ := Fin.ext (by dsimp only; omega)
    have e2 : (⟨jr.val - 512, by omega⟩ : Fin 3096) = ⟨o + (l.val + 128 - 32) % 128, by omega⟩ := Fin.ext (by dsimp only; omega)
    rw [e0, e1, e2]
    rfl
  · exact congrArg (colAt m c t a) (Fin.ext (by dsimp only; omega))

theorem lane_nat (h i : ℕ) (hi : i < 128) : (h * 128 + i) / 64 % 2 = i / 64 ∧ (h * 128 + i) / 512 = h / 4 := by
  omega

/-- A lane of a padded query head: the head's own half, or zeros. -/
theorem q_lane (h : Fin 8) (a : Fin 1024) (l : Fin 128) (j jl jr : Fin 3712) (w : BitVec 1)
    (hw : w = if l.val % 64 < 32 then 1#1 else 0#1)
    (hj : j.val = 1792 + h.val * 128 + l.val) (hl : jl.val = 1792 + h.val * 128 + (l.val + 128 - 96) % 128)
    (hr : jr.val = 1792 + h.val * 128 + (l.val + 128 - 32) % 128) :
    (csum m c t a j * Ideal.cos (FloatOps.sitofp (F := Ideal) .f32 (iblk m c 3 t (ix2 a 0) : BitVec 32) * (iblk m c 4 t (ix2 0 l) : EReal))
        + Scalar.select w (csum m c t a jl) (csum m c t a jr)
          * (Ideal.sin (FloatOps.sitofp (F := Ideal) .f32 (iblk m c 3 t (ix2 a 0) : BitVec 32) * (iblk m c 4 t (ix2 0 l) : EReal))
              * (iblk m c 5 t (ix2 0 l) : EReal))) * Ideal.ofBits .f32 0x3E38AA3B#32
      = ProjSpec.query (xAt m c (bOf t a) (tOf t a)) (nrm m c) (wgt m c) (pAt m c (bOf t a) (tOf t a)) h l := by
  subst hw
  rw [csum_q m c t a j (by omega) (by omega), csum_q m c t a jl (by omega) (by omega),
    csum_q m c t a jr (by omega) (by omega), read_p, read_f, read_s]
  have key := rope_lane
    (fun i => if i.val / 64 = h.val / 4 then colAt m c t a ⟨1792 + (h.val * 64 + i.val % 64), by omega⟩ else 0)
    (fun e => if l.val / 64 = h.val / 4 then colAt m c t a ⟨1792 + (h.val * 64 + e.val), by omega⟩ else 0)
    (pAt m c (bOf t a) (tOf t a)) l
    ⟨(l.val + 128 - 96) % 128, by omega⟩ ⟨(l.val + 128 - 32) % 128, by omega⟩ rfl rfl (fun e => by
      have e1 : (l.val / 64 * 64 + e.val) / 64 = l.val / 64 := by omega
      have e2 : (⟨1792 + (h.val * 64 + (l.val / 64 * 64 + e.val) % 64), by omega⟩ : Fin 3096)
        = ⟨1792 + (h.val * 64 + e.val), by omega⟩ := Fin.ext (by dsimp only; omega)
      dsimp only
      rw [e1, e2])
  have hc : ∀ (i : Fin 128) (j : Fin 3712), j.val = 1792 + h.val * 128 + i.val →
      (if (j.val - 1792) / 64 % 2 = (j.val - 1792) / 512 then
        colAt m c t a ⟨1792 + ((j.val - 1792) / 128 * 64 + (j.val - 1792) % 64), by omega⟩ else 0)
      = if i.val / 64 = h.val / 4 then colAt m c t a ⟨1792 + (h.val * 64 + i.val % 64), by omega⟩ else 0 := by
    intro i j e
    have ej : j.val - 1792 = h.val * 128 + i.val := by omega
    obtain ⟨n1, n2⟩ := lane_nat h.val i.val i.isLt
    rw [← ej] at n1 n2
    by_cases g : i.val / 64 = h.val / 4
    · rw [if_pos (by rw [n1, n2, g]), if_pos g]
      exact congrArg (colAt m c t a) (Fin.ext (by dsimp only; omega))
    · rw [if_neg (by rw [n1, n2]; exact g), if_neg g]
  rw [hc l j hj, hc ⟨(l.val + 128 - 96) % 128, by omega⟩ jl hl, hc ⟨(l.val + 128 - 32) % 128, by omega⟩ jr hr]
  refine (congrArg (· * Ideal.ofBits .f32 0x3E38AA3B#32) key).trans ?_
  unfold ProjSpec.query ProjSpec.head
  by_cases g : l.val / 64 = h.val / 4
  · simp only [if_pos g]
    refine congrArg (fun v => ProjSpec.rope v _ _ * _) (funext fun e => ?_)
    exact congrArg (colAt m c t a) (Fin.ext (by dsimp only; omega))
  · simp only [if_neg g]
    rw [rope_zero, zero_mul]

end Cert.ProjIdeal.Block

end
-- ==== Proof.ProjBlockKeys.lean ====
/- What one grid point of the projection call leaves in its output blocks, row by row: the projected columns, the
   padded queries and the rotated keys. -/
module

public import proofs.«01_k».proof.Proof.ProjPay
public import Idealize.ShloMosaic.Lib.Pipeline.ReadBack

@[expose] public section

set_option maxRecDepth 16384

noncomputable section

namespace Cert.ProjIdeal.Block

open Cert.ProjIdeal Cert.ProjIdeal.Gen Idealize.ShloMosaic Idealize.ShloMosaic.TcCoe Idealize.SL.Sem

variable (m : (ℓ : Loc nD τ sig) → Buf (Elt Ideal) ℓ) (c : Dev nD) (t : Fin cfg0.N)

theorem out_ks (r : Fin 1024) (j : Fin 128) :
    ((outsAt0 m c t).2.2.2.2.1 (ix2 r j) : EReal)
      = ProjSpec.pair (xAt m c (bOf t r) (tOf t r)) (nrm m c) (wgt m c) (pAt m c (bOf t r) (tOf t r))
          2560 (by omega) j := by
  simp only [outsAt0]
  frame_open
  simp (disch := decide) only [↓ View.readCov_skip, ↓ View.readCov_cons_toLoadRect, ↓ View.readCov_fill]
  frame_out
  pointwise [k0_pay70, k0_pay69, k0_pay7, k0_pay8, k0_pay6]
  simp only [pay5_apply]
  exact k_lane m c t 2560 (by omega) (by omega) r j ⟨3072 + j.val, by omega⟩ ⟨3072 + (j.val + 128 - 96) % 128, by omega⟩ ⟨3072 + (j.val + 128 - 32) % 128, by omega⟩ _
    (pay9_apply r j) (by dsimp only <;> omega) (by dsimp only <;> omega) (by dsimp only <;> omega)

theorem out_vs (r : Fin 1024) (j : Fin 128) :
    ((outsAt0 m c t).2.2.2.2.2.1 (ix2 r j) : EReal) = colAt m c t r ⟨2688 + j.val, by omega⟩ := by
  simp only [outsAt0]
  frame_open
  simp (disch := decide) only [↓ View.readCov_skip, ↓ View.readCov_cons_toLoadRect, ↓ View.readCov_fill]
  frame_out
  pointwise [k0_pay71, k0_pay69]
  simp only [pay5_apply]
  show csum m c t r ⟨3072 + (128 + j.val), by omega⟩ = _
  rw [csum_k m c t r _ (by dsimp only <;> omega) (by dsimp only <;> omega)]
  exact congrArg (colAt m c t r) (Fin.ext (by dsimp only <;> omega))

theorem out_kw (r : Fin 1024) (j : Fin 128) :
    ((outsAt0 m c t).2.2.2.2.2.2.1 (ix2 r j) : EReal)
      = ProjSpec.pair (xAt m c (bOf t r) (tOf t r)) (nrm m c) (wgt m c) (pAt m c (bOf t r) (tOf t r))
          2816 (by omega) j := by
  simp only [outsAt0]
  frame_open
  simp (disch := decide) only [↓ View.readCov_skip, ↓ View.readCov_cons_toLoadRect, ↓ View.readCov_fill]
  frame_out
  pointwise [k0_pay2, k0_pay1, k0_pay7, k0_pay8, k0_pay6]
  simp only [pay5_apply]
  exact k_lane m c t 2816 (by omega) (by omega) r j ⟨3328 + j.val, by omega⟩ ⟨3328 + (j.val + 128 - 96) % 128, by omega⟩ ⟨3328 + (j.val + 128 - 32) % 128, by omega⟩ _
    (pay9_apply r j) (by dsimp only <;> omega) (by dsimp only <;> omega) (by dsimp only <;> omega)

theorem out_vw (r : Fin 1024) (j : Fin 128) :
    ((outsAt0 m c t).2.2.2.2.2.2.2.1 (ix2 r j) : EReal) = colAt m c t r ⟨2944 + j.val, by omega⟩ := by
  simp only [outsAt0]
  frame_open
  simp (disch := decide) only [↓ View.readCov_skip, ↓ View.readCov_cons_toLoadRect, ↓ View.readCov_fill]
  frame_out
  pointwise [k0_pay3, k0_pay1]
  simp only [pay5_apply]
  show csum m c t r ⟨3328 + (128 + j.val), by omega⟩ = _
  rw [csum_k m c t r _ (by dsimp only <;> omega) (by dsimp only <;> omega)]
  exact congrArg (colAt m c t r) (Fin.ext (by dsimp only <;> omega))

theorem out_gl (r : Fin 1024) (j : Fin 128) :
    ((outsAt0 m c t).2.2.2.2.2.2.2.2 (ix2 r j) : EReal)
      = ProjSpec.gate (xAt m c (bOf t r) (tOf t r)) (nrm m c) (wgt m c) j := by
  simp only [outsAt0]
  frame_open
  simp (disch := decide) only [↓ View.readCov_skip, ↓ View.readCov_cons_toLoadRect, ↓ View.readCov_fill]
  frame_out
  pointwise [k0_pay4]
  simp only [pay5_apply]
  show csum m c t r ⟨3584 + j.val, by omega⟩ = _
  rw [csum_g m c t r _ (by dsimp only <;> omega)]
  exact congrArg (ProjSpec.gate _ _ _) (Fin.ext (by dsimp only <;> omega))

end Cert.ProjIdeal.Block

end
-- ==== Proof.ProjBlock.lean ====
/- What one grid point of the projection call leaves in its output blocks, row by row: the projected columns, the
   padded queries and the rotated keys. -/
module

public import proofs.«01_k».proof.Proof.ProjPay
public import Idealize.ShloMosaic.Lib.Pipeline.ReadBack

@[expose] public section

set_option maxRecDepth 16384

noncomputable section

namespace Cert.ProjIdeal.Block

open Cert.ProjIdeal Cert.ProjIdeal.Gen Idealize.ShloMosaic Idealize.ShloMosaic.TcCoe Idealize.SL.Sem

variable (m : (ℓ : Loc nD τ sig) → Buf (Elt Ideal) ℓ) (c : Dev nD) (t : Fin cfg0.N)

theorem row_eq {n : ℕ} (r a : Fin n) (h : r.val = a.val) : a = r := Fin.ext h.symm

theorem out_y (r : Fin 1024) (j : Fin 1792) :
    ((outsAt0 m c t).1 (ix2 r j) : EReal) = colAt m c t r ⟨j.val, by omega⟩ := by
  simp only [outsAt0]
  frame_out
  rw [← csum_y m c t r ⟨j.val, by omega⟩ j.isLt]
  generalize hy : (ix2 r j : S1024x1792.Idx) = y
  canon_tiles x h
  · obtain ⟨a, b, rfl⟩ : ∃ (a : Fin 1024) (b : Fin 256), x = ix2 a b := ⟨x 0, x 1, eq_ix2 x⟩
    subst hy
    obtain rfl := row_eq r a h0
    have e1 : j.val = 1536 + b.val := h1
    have hb : b.val < 256 := b.isLt
    pointwise [k0_pay16]
    simp only [pay5_apply]
    show csum m c t a ⟨1536 + b.val, by omega⟩ = csum m c t a _
    exact congrArg (csum m c t a) (Fin.ext (by dsimp only <;> omega))
  · obtain ⟨a, b, rfl⟩ : ∃ (a : Fin 1024) (b : Fin 256), x = ix2 a b := ⟨x 0, x 1, eq_ix2 x⟩
    subst hy
    obtain rfl := row_eq r a h0
    have e1 : j.val = 1280 + b.val := h1
    have hb : b.val < 256 := b.isLt
    pointwise [k0_pay15]
    simp only [pay5_apply]
    show csum m c t a ⟨1280 + b.val, by omega⟩ = csum m c t a _
    exact congrArg (csum m c t a) (Fin.ext (by dsimp only <;> omega))
  · obtain ⟨a, b, rfl⟩ : ∃ (a : Fin 1024) (b : Fin 256), x = ix2 a b := ⟨x 0, x 1, eq_ix2 x⟩
    subst hy
    obtain rfl := row_eq r a h0
    have e1 : j.val = 1024 + b.val := h1
    have hb : b.val < 256 := b.isLt
    pointwise [k0_pay14]
    simp only [pay5_apply]
    show csum m c t a ⟨1024 + b.val, by omega⟩ = csum m c t a _
    exact congrArg (csum m c t a) (Fin.ext (by dsimp only <;> omega))
  · obtain ⟨a, b, rfl⟩ : ∃ (a : Fin 1024) (b : Fin 256), x = ix2 a b := ⟨x 0, x 1, eq_ix2 x⟩
    subst hy
    obtain rfl := row_eq r a h0
    have e1 : j.val = 768 + b.val := h1
    have hb : b.val < 256 := b.isLt
    pointwise [k0_pay13]
    simp only [pay5_apply]
    show csum m c t a ⟨768 + b.val, by omega⟩ = csum m c t a _
    exact congrArg (csum m c t a) (Fin.ext (by dsimp only <;> omega))
  · obtain ⟨a, b, rfl⟩ : ∃ (a : Fin 1024) (b : Fin 256), x = ix2 a b := ⟨x 0, x 1, eq_ix2 x⟩
    subst hy
    obtain rfl := row_eq r a h0
    have e1 : j.val = 512 + b.val := h1
    have hb : b.val < 256 := b.isLt
    pointwise [k0_pay12]
    simp only [pay5_apply]
    show csum m c t a ⟨512 + b.val, by omega⟩ = csum m c t a _
    exact congrArg (csum m c t a) (Fin.ext (by dsimp only <;> omega))
  · obtain ⟨a, b, rfl⟩ : ∃ (a : Fin 1024) (b : Fin 256), x = ix2 a b := ⟨x 0, x 1, eq_ix2 x⟩
    subst hy
    obtain rfl := row_eq r a h0
    have e1 : j.val = 256 + b.val := h1
    have hb : b.val < 256 := b.isLt
    pointwise [k0_pay11]
    simp only [pay5_apply]
    show csum m c t a ⟨256 + b.val, by omega⟩ = csum m c t a _
    exact congrArg (csum m c t a) (Fin.ext (by dsimp only <;> omega))
  · obtain ⟨a, b, rfl⟩ : ∃ (a : Fin 1024) (b : Fin 256), x = ix2 a b := ⟨x 0, x 1, eq_ix2 x⟩
    subst hy
    obtain rfl := row_eq r a h0
    have e1 : j.val = b.val := h1
    have hb : b.val < 256 := b.isLt
    pointwise [k0_pay10]
    simp only [pay5_apply]
    show csum m c t a ⟨b.val, by omega⟩ = csum m c t a _
    exact congrArg (csum m c t a) (Fin.ext (by dsimp only <;> omega))

end Cert.ProjIdeal.Block

end
-- ==== Proof.ProjBlockQuery.lean ====
/- What one grid point of the projection call leaves in its output blocks, row by row: the projected columns, the
   padded queries and the rotated keys. -/
module

public import proofs.«01_k».proof.Proof.ProjBlock
public import Idealize.ShloMosaic.Lib.Pipeline.ReadBack

@[expose] public section

set_option maxRecDepth 16384

noncomputable section

namespace Cert.ProjIdeal.Block

open Cert.ProjIdeal Cert.ProjIdeal.Gen Idealize.ShloMosaic Idealize.ShloMosaic.TcCoe Idealize.SL.Sem

variable (m : (ℓ : Loc nD τ sig) → Buf (Elt Ideal) ℓ) (c : Dev nD) (t : Fin cfg0.N)

theorem query_at (r : Fin 1024) (j : Fin 1024) (h : Fin 8) (b : Fin 128) (e : j.val = h.val * 128 + b.val) :
    ProjSpec.query (xAt m c (bOf t r) (tOf t r)) (nrm m c) (wgt m c) (pAt m c (bOf t r) (tOf t r)) h b
      = ProjSpec.query (xAt m c (bOf t r) (tOf t r)) (nrm m c) (wgt m c) (pAt m c (bOf t r) (tOf t r))
          ⟨j.val / 128, by omega⟩ ⟨j.val % 128, by omega⟩ := by
  have e0 : h = ⟨j.val / 128, by omega⟩ := Fin.ext (by dsimp only <;> omega)
  have e1 : b = ⟨j.val % 128, by omega⟩ := Fin.ext (by dsimp only <;> omega)
  rw [← e0, ← e1]

theorem out_q (r : Fin 1024) (j : Fin 1024) :
    ((outsAt0 m c t).2.1 (ix2 r j) : EReal)
      = ProjSpec.query (xAt m c (bOf t r) (tOf t r)) (nrm m c) (wgt m c) (pAt m c (bOf t r) (tOf t r))
          ⟨j.val / 128, by omega⟩ ⟨j.val % 128, by omega⟩ := by
  simp only [outsAt0]
  frame_open
  simp (disch := decide) only [↓ View.readCov_skip, ↓ View.readCov_cons_toLoadRect, ↓ View.readCov_fill]
  frame_out
  generalize hy : (ix2 r j : S1024x1024.Idx) = y
  canon_tiles x h
  · obtain ⟨a, b, rfl⟩ : ∃ (a : Fin 1024) (b : Fin 128), x = ix2 a b := ⟨x 0, x 1, eq_ix2 x⟩
    subst hy
    obtain rfl := row_eq r a h0
    have e1 : j.val = 896 + b.val := h1
    have hb : b.val < 128 := b.isLt
    rw [← query_at m c t a j ⟨7, by omega⟩ b (by dsimp only <;> omega)]
    pointwise [k0_pay33, k0_pay31, k0_pay7, k0_pay8, k0_pay6]
    simp only [pay5_apply]
    exact q_lane m c t ⟨7, by omega⟩ a b ⟨2560 + (128 + b.val), by omega⟩ ⟨2560 + (128 + (b.val + 128 - 96) % 128), by omega⟩ ⟨2560 + (128 + (b.val + 128 - 32) % 128), by omega⟩ _
      (pay9_apply a b) (by dsimp only <;> omega) (by dsimp only <;> omega) (by dsimp only <;> omega)
  · obtain ⟨a, b, rfl⟩ : ∃ (a : Fin 1024) (b : Fin 128), x = ix2 a b := ⟨x 0, x 1, eq_ix2 x⟩
    subst hy
    obtain rfl := row_eq r a h0
    have e1 : j.val = 768 + b.val := h1
    have hb : b.val < 128 := b.isLt
    rw [← query_at m c t a j ⟨6, by omega⟩ b (by dsimp only <;> omega)]
    pointwise [k0_pay32, k0_pay31, k0_pay7, k0_pay8, k0_pay6]
    simp only [pay5_apply]
    exact q_lane m c t ⟨6, by omega⟩ a b ⟨2560 + b.val, by omega⟩ ⟨2560 + (b.val + 128 - 96) % 128, by omega⟩ ⟨2560 + (b.val + 128 - 32) % 128, by omega⟩ _
      (pay9_apply a b) (by dsimp only <;> omega) (by dsimp only <;> omega) (by dsimp only <;> omega)
  · obtain ⟨a, b, rfl⟩ : ∃ (a : Fin 1024) (b : Fin 128), x = ix2 a b := ⟨x 0, x 1, eq_ix2 x⟩
    subst hy
    obtain rfl := row_eq r a h0
    have e1 : j.val = 640 + b.val := h1
    have hb : b.val < 128 := b.isLt
    rw [← query_at m c t a j ⟨5, by omega⟩ b (by dsimp only <;> omega)]
    pointwise [k0_pay30, k0_pay28, k0_pay29, k0_pay27, k0_pay25, k0_pay7, k0_pay8, k0_pay6]
    simp only [pay5_apply]
    exact q_lane m c t ⟨5, by omega⟩ a b ⟨2304 + (128 + b.val), by omega⟩ ⟨2304 + (128 + (b.val + 128 - 96) % 128), by omega⟩ ⟨2304 + (128 + (b.val + 128 - 32) % 128), by omega⟩ _
      (pay9_apply a b) (by dsimp only <;> omega) (by dsimp only <;> omega) (by dsimp only <;> omega)
  · obtain ⟨a, b, rfl⟩ : ∃ (a : Fin 1024) (b : Fin 128), x = ix2 a b := ⟨x 0, x 1, eq_ix2 x⟩
    subst hy
    obtain rfl := row_eq r a h0
    have e1 : j.val = 512 + b.val := h1
    have hb : b.val < 128 := b.isLt
    rw [← query_at m c t a j ⟨4, by omega⟩ b (by dsimp only <;> omega)]
    pointwise [k0_pay26, k0_pay25, k0_pay7, k0_pay8, k0_pay6]
    simp only [pay5_apply]
    exact q_lane m c t ⟨4, by omega⟩ a b ⟨2304 + b.val, by omega⟩ ⟨2304 + (b.val + 128 - 96) % 128, by omega⟩ ⟨2304 + (b.val + 128 - 32) % 128, by omega⟩ _
      (pay9_apply a b) (by dsimp only <;> omega) (by dsimp only <;> omega) (by dsimp only <;> omega)
  · obtain ⟨a, b, rfl⟩ : ∃ (a : Fin 1024) (b : Fin 128), x = ix2 a b := ⟨x 0, x 1, eq_ix2 x⟩
    subst hy
    obtain rfl := row_eq r a h0
    have e1 : j.val = 384 + b.val := h1
    have hb : b.val < 128 := b.isLt
    rw [← query_at m c t a j ⟨3, by omega⟩ b (by dsimp only <;> omega)]
    pointwise [k0_pay24, k0_pay22, k0_pay23, k0_pay20, k0_pay7, k0_pay8, k0_pay6]
    simp only [pay5_apply]
    exact q_lane m c t ⟨3, by omega⟩ a b ⟨2048 + (128 + b.val), by omega⟩ ⟨2048 + (128 + (b.val + 128 - 96) % 128), by omega⟩ ⟨2048 + (128 + (b.val + 128 - 32) % 128), by omega⟩ _
      (pay9_apply a b) (by dsimp only <;> omega) (by dsimp only <;> omega) (by dsimp only <;> omega)
  · obtain ⟨a, b, rfl⟩ : ∃ (a : Fin 1024) (b : Fin 128), x = ix2 a b := ⟨x 0, x 1, eq_ix2 x⟩
    subst hy
    obtain rfl := row_eq r a h0
    have e1 : j.val = 256 + b.val := h1
    have hb : b.val < 128 := b.isLt
    rw [← query_at m c t a j ⟨2, by omega⟩ b (by dsimp only <;> omega)]
    pointwise [k0_pay21, k0_pay20, k0_pay7, k0_pay8, k0_pay6]
    simp only [pay5_apply]
    exact q_lane m c t ⟨2, by omega⟩ a b ⟨2048 + b.val, by omega⟩ ⟨2048 + (b.val + 128 - 96) % 128, by omega⟩ ⟨2048 + (b.val + 128 - 32) % 128, by omega⟩ _
      (pay9_apply a b) (by dsimp only <;> omega) (by dsimp only <;> omega) (by dsimp only <;> omega)
  · obtain ⟨a, b, rfl⟩ : ∃ (a : Fin 1024) (b : Fin 128), x = ix2 a b := ⟨x 0, x 1, eq_ix2 x⟩
    subst hy
    obtain rfl := row_eq r a h0
    have e1 : j.val = 128 + b.val := h1
    have hb : b.val < 128 := b.isLt
    rw [← query_at m c t a j ⟨1, by omega⟩ b (by dsimp only <;> omega)]
    pointwise [k0_pay19, k0_pay17, k0_pay7, k0_pay8, k0_pay6]
    simp only [pay5_apply]
    exact q_lane m c t ⟨1, by omega⟩ a b ⟨1792 + (128 + b.val), by omega⟩ ⟨1792 + (128 + (b.val + 128 - 96) % 128), by omega⟩ ⟨1792 + (128 + (b.val + 128 - 32) % 128), by omega⟩ _
      (pay9_apply a b) (by dsimp only <;> omega) (by dsimp only <;> omega) (by dsimp only <;> omega)
  · obtain ⟨a, b, rfl⟩ : ∃ (a : Fin 1024) (b : Fin 128), x = ix2 a b := ⟨x 0, x 1, eq_ix2 x⟩
    subst hy
    obtain rfl := row_eq r a h0
    have e1 : j.val = b.val := h1
    have hb : b.val < 128 := b.isLt
    rw [← query_at m c t a j ⟨0, by omega⟩ b (by dsimp only <;> omega)]
    pointwise [k0_pay18, k0_pay17, k0_pay7, k0_pay8, k0_pay6]
    simp only [pay5_apply]
    exact q_lane m c t ⟨0, by omega⟩ a b ⟨1792 + b.val, by omega⟩ ⟨1792 + (b.val + 128 - 96) % 128, by omega⟩ ⟨1792 + (b.val + 128 - 32) % 128, by omega⟩ _
      (pay9_apply a b) (by dsimp only <;> omega) (by dsimp only <;> omega) (by dsimp only <;> omega)

end Cert.ProjIdeal.Block

end
-- ==== Proof.ProjBlockPages.lean ====
/- What one grid point of the projection call leaves in the two blocks of the keys and values to be compressed: every
   row gathers sixteen rows, a stride apart, from the scratch of the rotated keys and of the values. -/
module

public import proofs.«01_k».proof.Proof.ProjBlock
public import Idealize.ShloMosaic.Lib.Pipeline.ReadBack

@[expose] public section

set_option maxRecDepth 16384

noncomputable section

namespace Cert.ProjIdeal.Block

open Cert.ProjIdeal Cert.ProjIdeal.Gen Idealize.ShloMosaic Idealize.ShloMosaic.TcCoe Idealize.SL.Sem

variable (m : (ℓ : Loc nD τ sig) → Buf (Elt Ideal) ℓ) (c : Dev nD) (t : Fin cfg0.N)

/-- A strided read of the page written last is the page's rows at that stride. -/
theorem read_row (P : Vec Ideal S1x1024x128 .f32) (s a : ℕ) (ha : a < 16)
    (h : ∀ d : Fin 3, (![s, 0, 0] : Fin 3 → ℕ) d + (![1, 1024, 128] : Fin 3 → ℕ) d ≤ S2x1024x128.size d)
    (h' : ∀ d : Fin 3, (![1, 64, 128] : Fin 3 → ℕ) d = 0
      ∨ (![s, a, 0] : Fin 3 → ℕ) d + (![1, 16, 1] : Fin 3 → ℕ) d * ((![1, 64, 128] : Fin 3 → ℕ) d - 1) < S2x1024x128.size d)
    (L : List (View.Piece (Elt Ideal) S2x1024x128 .f32)) (R : Fin 64) (l : Fin 128) :
    (View.whole cc0_scratch2).readCov (⟨Rect.unit ![s, 0, 0] ![1, 1024, 128] h, P⟩ :: L)
        { off := ![s, a, 0], size := ![1, 64, 128], stride := ![1, 16, 1], inb := h' } (ix3 0 R l)
      = P (ix3 0 ⟨a + 16 * R.val, by omega⟩ l) := by
  rw [View.readCov_eq_canon']
  refine Eq.trans (congrArg (View.canon _) ?_) (View.canon_cons_emb (Rect.unit ![s, 0, 0] ![1, 1024, 128] h) P L (ix3 0 ⟨a + 16 * R.val, by omega⟩ l))
  funext d
  match d with
  | ⟨0, _⟩ => rfl
  | ⟨1, _⟩ => apply Fin.ext; show a + 16 * R.val = 0 + 1 * (a + 16 * R.val); omega
  | ⟨2, _⟩ => rfl

theorem read_row_zero (P : Vec Ideal S1x1024x128 .f32) (s : ℕ)
    (h : ∀ d : Fin 3, (![s, 0, 0] : Fin 3 → ℕ) d + (![1, 1024, 128] : Fin 3 → ℕ) d ≤ S2x1024x128.size d)
    (h' : ∀ d : Fin 3, (![1, 64, 128] : Fin 3 → ℕ) d = 0
      ∨ (![s, 0, 0] : Fin 3 → ℕ) d + (![1, 16, 1] : Fin 3 → ℕ) d * ((![1, 64, 128] : Fin 3 → ℕ) d - 1) < S2x1024x128.size d)
    (L : List (View.Piece (Elt Ideal) S2x1024x128 .f32)) (R : Fin 64) (l : Fin 128) :
    (View.whole cc0_scratch2).readCov (⟨Rect.unit ![s, 0, 0] ![1, 1024, 128] h, P⟩ :: L)
        { off := ![s, 0, 0], size := ![1, 64, 128], stride := ![1, 16, 1], inb := h' } (ix3 0 R l)
      = P (ix3 0 ⟨16 * R.val, by omega⟩ l) :=
  (read_row P s 0 (by omega) h h' L R l).trans (congrArg (fun r : Fin 1024 => P (ix3 0 r l)) (Fin.ext (Nat.zero_add _)))

theorem page_k (r : Fin 1024) (l : Fin 128) :
    (k0_pay35 (F := Ideal) (k0_pay5 (iblk m c 0 t) (iblk m c 1 t))
        (k0_pay9 (iota Kind.tc S1024x128 32 [1] iota_S1024x128_d1_w32) 64#32 0#32)
        (View.ld (iblk m c 2 t) (Rect.unit ![0, 2816] ![1024, 256] inb_S1024x3712_S1024x256_0_2816))
        (k0_pay7 (iblk m c 3 t) (iblk m c 4 t)) (k0_pay8 (iblk m c 3 t) (iblk m c 4 t) (iblk m c 5 t)) (ix3 0 r l) : EReal)
      = ProjSpec.pair (xAt m c (bOf t r) (tOf t r)) (nrm m c) (wgt m c) (pAt m c (bOf t r) (tOf t r)) 2304 (by omega) l := by
  pointwise [k0_pay35, k0_pay34, k0_pay7, k0_pay8, k0_pay6]
  simp only [pay5_apply]
  exact k_lane m c t 2304 (by omega) (by omega) r l ⟨2816 + l.val, by omega⟩ ⟨2816 + (l.val + 128 - 96) % 128, by omega⟩
    ⟨2816 + (l.val + 128 - 32) % 128, by omega⟩ _ (pay9_apply r l) (by dsimp only <;> omega) (by dsimp only <;> omega)
    (by dsimp only <;> omega)

/-- The column of the values to be compressed that a lane is. -/
abbrev valueCol (l : Fin 128) : Fin 3096 := ⟨2432 + l.val, by omega⟩

theorem page_v (r : Fin 1024) (l : Fin 128) :
    (k0_pay36 (F := Ideal) (k0_pay5 (iblk m c 0 t) (iblk m c 1 t))
        (View.ld (iblk m c 2 t) (Rect.unit ![0, 2816] ![1024, 256] inb_S1024x3712_S1024x256_0_2816)) (ix3 0 r l) : EReal)
      = colAt m c t r (valueCol l) := by
  pointwise [k0_pay36, k0_pay34]
  simp only [pay5_apply]
  show csum m c t r ⟨2816 + (128 + l.val), by omega⟩ = _
  rw [csum_k m c t r _ (by dsimp only <;> omega) (by dsimp only <;> omega)]
  exact congrArg (colAt m c t r) (Fin.ext (by dsimp only <;> omega))

/-- The row of the block that band `j / 128` of row `r` gathers. -/
abbrev gathered (r : Fin 64) (j : Fin 2048) : Fin 1024 := ⟨r.val * 16 + j.val / 128, by omega⟩

/-- The lane of a band that a column is. -/
def laneOf (j : Fin 2048) : Fin 128 := ⟨j.val % 128, by omega⟩

theorem gathered_eq (r : Fin 64) (j : Fin 2048) (n : ℕ) (hn : n < 16) (l : Fin 128) (e : j.val = 128 * n + l.val) :
    gathered r j = ⟨n + 16 * r.val, by omega⟩ ∧ laneOf j = l :=
  ⟨Fin.ext (by dsimp only <;> omega), Fin.ext (by unfold laneOf; dsimp only <;> omega)⟩

set_option maxHeartbeats 1000000 in
theorem out_kc (r : Fin 64) (j : Fin 2048) :
    ((outsAt0 m c t).2.2.1 (ix2 r j) : EReal) = ProjSpec.pair
      (xAt m c (bOf t (gathered r j)) (tOf t (gathered r j))) (nrm m c) (wgt m c)
      (pAt m c (bOf t (gathered r j)) (tOf t (gathered r j))) 2304 (by omega) (laneOf j) := by
  simp only [outsAt0]
  frame_open
  simp (disch := decide) only [↓ View.readCov_skip, ↓ View.readCov_cons_toLoadRect, ↓ View.readCov_fill]
  frame_out
  generalize hy : (ix2 r j : S64x2048.Idx) = y
  canon_tiles x h
  · obtain ⟨a, b, rfl⟩ : ∃ (a : Fin 64) (b : Fin 128), x = ix2 a b := ⟨x 0, x 1, eq_ix2 x⟩
    subst hy
    obtain rfl := row_eq r a h0
    have e1 : j.val = 1920 + b.val := h1
    obtain ⟨g0, g1⟩ := gathered_eq a j 15 (by omega) b (by omega)
    rw [g0, g1]
    pointwise [k0_pay67]
    exact (read_row _ 0 15 (by omega) _ _ _ a b).trans (page_k m c t ⟨15 + 16 * a.val, by omega⟩ b)
  · obtain ⟨a, b, rfl⟩ : ∃ (a : Fin 64) (b : Fin 128), x = ix2 a b := ⟨x 0, x 1, eq_ix2 x⟩
    subst hy
    obtain rfl := row_eq r a h0
    have e1 : j.val = 1792 + b.val := h1
    obtain ⟨g0, g1⟩ := gathered_eq a j 14 (by omega) b (by omega)
    rw [g0, g1]
    pointwise [k0_pay65]
    exact (read_row _ 0 14 (by omega) _ _ _ a b).trans (page_k m c t ⟨14 + 16 * a.val, by omega⟩ b)
  · obtain ⟨a, b, rfl⟩ : ∃ (a : Fin 64) (b : Fin 128), x = ix2 a b := ⟨x 0, x 1, eq_ix2 x⟩
    subst hy
    obtain rfl := row_eq r a h0
    have e1 : j.val = 1664 + b.val := h1
    obtain ⟨g0, g1⟩ := gathered_eq a j 13 (by omega) b (by omega)
    rw [g0, g1]
    pointwise [k0_pay63]
    exact (read_row _ 0 13 (by omega) _ _ _ a b).trans (page_k m c t ⟨13 + 16 * a.val, by omega⟩ b)
  · obtain ⟨a, b, rfl⟩ : ∃ (a : Fin 64) (b : Fin 128), x = ix2 a b := ⟨x 0, x 1, eq_ix2 x⟩
    subst hy
    obtain rfl := row_eq r a h0
    have e1 : j.val = 1536 + b.val := h1
    obtain ⟨g0, g1⟩ := gathered_eq a j 12 (by omega) b (by omega)
    rw [g0, g1]
    pointwise [k0_pay61]
    exact (read_row _ 0 12 (by omega) _ _ _ a b).trans (page_k m c t ⟨12 + 16 * a.val, by omega⟩ b)
  · obtain ⟨a, b, rfl⟩ : ∃ (a : Fin 64) (b : Fin 128), x = ix2 a b := ⟨x 0, x 1, eq_ix2 x⟩
    subst hy
    obtain rfl := row_eq r a h0
    have e1 : j.val = 1408 + b.val := h1
    obtain ⟨g0, g1⟩ := gathered_eq a j 11 (by omega) b (by omega)
    rw [g0, g1]
    pointwise [k0_pay59]
    exact (read_row _ 0 11 (by omega) _ _ _ a b).trans (page_k m c t ⟨11 + 16 * a.val, by omega⟩ b)
  · obtain ⟨a, b, rfl⟩ : ∃ (a : Fin 64) (b : Fin 128), x = ix2 a b := ⟨x 0, x 1, eq_ix2 x⟩
    subst hy
    obtain rfl := row_eq r a h0
    have e1 : j.val = 1280 + b.val := h1
    obtain ⟨g0, g1⟩ := gathered_eq a j 10 (by omega) b (by omega)
    rw [g0, g1]
    pointwise [k0_pay57]
    exact (read_row _ 0 10 (by omega) _ _ _ a b).trans (page_k m c t ⟨10 + 16 * a.val, by omega⟩ b)
  · obtain ⟨a, b, rfl⟩ : ∃ (a : Fin 64) (b : Fin 128), x = ix2 a b := ⟨x 0, x 1, eq_ix2 x⟩
    subst hy
    obtain rfl := row_eq r a h0
    have e1 : j.val = 1152 + b.val := h1
    obtain ⟨g0, g1⟩ := gathered_eq a j 9 (by omega) b (by omega)
    rw [g0, g1]
    pointwise [k0_pay55]
    exact (read_row _ 0 9 (by omega) _ _ _ a b).trans (page_k m c t ⟨9 + 16 * a.val, by omega⟩ b)
  · obtain ⟨a, b, rfl⟩ : ∃ (a : Fin 64) (b : Fin 128), x = ix2 a b := ⟨x 0, x 1, eq_ix2 x⟩
    subst hy
    obtain rfl := row_eq r a h0
    have e1 : j.val = 1024 + b.val := h1
    obtain ⟨g0, g1⟩ := gathered_eq a j 8 (by omega) b (by omega)
    rw [g0, g1]
    pointwise [k0_pay53]
    exact (read_row _ 0 8 (by omega) _ _ _ a b).trans (page_k m c t ⟨8 + 16 * a.val, by omega⟩ b)
  · obtain ⟨a, b, rfl⟩ : ∃ (a : Fin 64) (b : Fin 128), x = ix2 a b := ⟨x 0, x 1, eq_ix2 x⟩
    subst hy
    obtain rfl := row_eq r a h0
    have e1 : j.val = 896 + b.val := h1
    obtain ⟨g0, g1⟩ := gathered_eq a j 7 (by omega) b (by omega)
    rw [g0, g1]
    pointwise [k0_pay51]
    exact (read_row _ 0 7 (by omega) _ _ _ a b).trans (page_k m c t ⟨7 + 16 * a.val, by omega⟩ b)
  · obtain ⟨a, b, rfl⟩ : ∃ (a : Fin 64) (b : Fin 128), x = ix2 a b := ⟨x 0, x 1, eq_ix2 x⟩
    subst hy
    obtain rfl := row_eq r a h0
    have e1 : j.val = 768 + b.val := h1
    obtain ⟨g0, g1⟩ := gathered_eq a j 6 (by omega) b (by omega)
    rw [g0, g1]
    pointwise [k0_pay49]
    exact (read_row _ 0 6 (by omega) _ _ _ a b).trans (page_k m c t ⟨6 + 16 * a.val, by omega⟩ b)
  · obtain ⟨a, b, rfl⟩ : ∃ (a : Fin 64) (b : Fin 128), x = ix2 a b := ⟨x 0, x 1, eq_ix2 x⟩
    subst hy
    obtain rfl := row_eq r a h0
    have e1 : j.val = 640 + b.val := h1
    obtain ⟨g0, g1⟩ := gathered_eq a j 5 (by omega) b (by omega)
    rw [g0, g1]
    pointwise [k0_pay47]
    exact (read_row _ 0 5 (by omega) _ _ _ a b).trans (page_k m c t ⟨5 + 16 * a.val, by omega⟩ b)
  · obtain ⟨a, b, rfl⟩ : ∃ (a : Fin 64) (b : Fin 128), x = ix2 a b := ⟨x 0, x 1, eq_ix2 x⟩
    subst hy
    obtain rfl := row_eq r a h0
    have e1 : j.val = 512 + b.val := h1
    obtain ⟨g0, g1⟩ := gathered_eq a j 4 (by omega) b (by omega)
    rw [g0, g1]
    pointwise [k0_pay45]
    exact (read_row _ 0 4 (by omega) _ _ _ a b).trans (page_k m c t ⟨4 + 16 * a.val, by omega⟩ b)
  · obtain ⟨a, b, rfl⟩ : ∃ (a : Fin 64) (b : Fin 128), x = ix2 a b := ⟨x 0, x 1, eq_ix2 x⟩
    subst hy
    obtain rfl := row_eq r a h0
    have e1 : j.val = 384 + b.val := h1
    obtain ⟨g0, g1⟩ := gathered_eq a j 3 (by omega) b (by omega)
    rw [g0, g1]
    pointwise [k0_pay43]
    exact (read_row _ 0 3 (by omega) _ _ _ a b).trans (page_k m c t ⟨3 + 16 * a.val, by omega⟩ b)
  · obtain ⟨a, b, rfl⟩ : ∃ (a : Fin 64) (b : Fin 128), x = ix2 a b := ⟨x 0, x 1, eq_ix2 x⟩
    subst hy
    obtain rfl := row_eq r a h0
    have e1 : j.val = 256 + b.val := h1
    obtain ⟨g0, g1⟩ := gathered_eq a j 2 (by omega) b (by omega)
    rw [g0, g1]
    pointwise [k0_pay41]
    exact (read_row _ 0 2 (by omega) _ _ _ a b).trans (page_k m c t ⟨2 + 16 * a.val, by omega⟩ b)
  · obtain ⟨a, b, rfl⟩ : ∃ (a : Fin 64) (b : Fin 128), x = ix2 a b := ⟨x 0, x 1, eq_ix2 x⟩
    subst hy
    obtain rfl := row_eq r a h0
    have e1 : j.val = 128 + b.val := h1
    obtain ⟨g0, g1⟩ := gathered_eq a j 1 (by omega) b (by omega)
    rw [g0, g1]
    pointwise [k0_pay39]
    exact (read_row _ 0 1 (by omega) _ _ _ a b).trans (page_k m c t ⟨1 + 16 * a.val, by omega⟩ b)
  · obtain ⟨a, b, rfl⟩ : ∃ (a : Fin 64) (b : Fin 128), x = ix2 a b := ⟨x 0, x 1, eq_ix2 x⟩
    subst hy
    obtain rfl := row_eq r a h0
    have e1 : j.val = b.val := h1
    obtain ⟨g0, g1⟩ := gathered_eq a j 0 (by omega) b (by omega)
    rw [g0, g1]
    pointwise [k0_pay37]
    exact (read_row_zero _ 0 _ _ _ a b).trans (page_k m c t ⟨16 * a.val, by omega⟩ b)

end Cert.ProjIdeal.Block

end
-- ==== Proof.ProjArray.lean ====
/- The projection call's result arrays, row by row: every grid point writes its own blocks, which tile the arrays. -/
module

public import proofs.«01_k».proof.Proof.ProjBlockKeys
public import proofs.«01_k».proof.Proof.ProjBlockQuery
public import proofs.«01_k».proof.Proof.ProjBlockPages

@[expose] public section

set_option maxRecDepth 16384

noncomputable section

namespace Cert.ProjIdeal.Block

open Cert.ProjIdeal Cert.ProjIdeal.Gen Idealize.ShloMosaic Idealize.ShloMosaic.TcCoe Idealize.SL.Sem

variable (m : (ℓ : Loc nD τ sig) → Buf (Elt Ideal) ℓ) (c : Dev nD)

/-- Row `R` of the flattened input, and its position. -/
abbrev xRow (R : Fin 32768) : Fin 1024 → EReal := xAt m c ⟨R.val / 4096, by omega⟩ ⟨R.val % 4096, by omega⟩
abbrev pRow (R : Fin 32768) : BitVec 32 := pAt m c ⟨R.val / 4096, by omega⟩ ⟨R.val % 4096, by omega⟩

/-- Where each output window stands at point `t`. -/
theorem odx : ∀ t : Fin cfg0.N,
    win0_6.index t = ![t.val, 0] ∧ win0_7.index t = ![t.val, 0] ∧ win0_8.index t = ![t.val, 0]
      ∧ win0_9.index t = ![t.val, 0] ∧ win0_10.index t = ![t.val, 0] ∧ win0_11.index t = ![t.val, 0]
      ∧ win0_12.index t = ![t.val, 0] ∧ win0_13.index t = ![t.val, 0] ∧ win0_14.index t = ![t.val, 0] :=
  (by decide +kernel : ∀ t : Fin grid0.N, _)

/-- The row a block's row stands at in the array. -/
abbrev rowOf (t : Fin cfg0.N) (r : Fin 1024) : Fin 32768 := ⟨t.val * 1024 + r.val, by have := lt32 t; omega⟩

/-- The row that band `j / 128` of row `R` of the keys and values to be compressed gathers. -/
abbrev rowAt (R : Fin 2048) (j : Fin 2048) : Fin 32768 := ⟨R.val * 16 + j.val / 128, by omega⟩

/-- The nine result arrays. -/
def yArr (R : Fin 32768) (j : Fin 1792) : EReal := ProjSpec.col (xRow m c R) (nrm m c) (wgt m c) ⟨j.val, by omega⟩
def qArr (R : Fin 32768) (j : Fin 1024) : EReal :=
  ProjSpec.query (xRow m c R) (nrm m c) (wgt m c) (pRow m c R) ⟨j.val / 128, by omega⟩ ⟨j.val % 128, by omega⟩
def kcArr (R : Fin 2048) (j : Fin 2048) : EReal :=
  ProjSpec.pair (xRow m c (rowAt R j)) (nrm m c) (wgt m c) (pRow m c (rowAt R j)) 2304 (by omega) ⟨j.val % 128, by omega⟩
def vcArr (R : Fin 2048) (j : Fin 2048) : EReal :=
  ProjSpec.col (xRow m c (rowAt R j)) (nrm m c) (wgt m c) ⟨2432 + j.val % 128, by omega⟩
def ksArr (R : Fin 32768) (j : Fin 128) : EReal :=
  ProjSpec.pair (xRow m c R) (nrm m c) (wgt m c) (pRow m c R) 2560 (by omega) j
def vsArr (R : Fin 32768) (j : Fin 128) : EReal := ProjSpec.col (xRow m c R) (nrm m c) (wgt m c) ⟨2688 + j.val, by omega⟩
def kwArr (R : Fin 32768) (j : Fin 128) : EReal :=
  ProjSpec.pair (xRow m c R) (nrm m c) (wgt m c) (pRow m c R) 2816 (by omega) j
def vwArr (R : Fin 32768) (j : Fin 128) : EReal := ProjSpec.col (xRow m c R) (nrm m c) (wgt m c) ⟨2944 + j.val, by omega⟩
def glArr (R : Fin 32768) (j : Fin 128) : EReal := ProjSpec.gate (xRow m c R) (nrm m c) (wgt m c) j

/-- A row of a block, gathered or not, is the array's row. -/
theorem gathered_row (t : Fin cfg0.N) (r : Fin 64) (j : Fin 2048) (h : t.val * 64 + r.val < 2048) :
    rowOf t (gathered r j) = rowAt ⟨t.val * 64 + r.val, h⟩ j := Fin.ext (by dsimp only <;> omega)

theorem kc_row (t : Fin cfg0.N) (r : Fin 64) (j : Fin 2048) (h : t.val * 64 + r.val < 2048) :
    ProjSpec.pair (xRow m c (rowOf t (gathered r j))) (nrm m c) (wgt m c) (pRow m c (rowOf t (gathered r j))) 2304
        (by omega) ⟨j.val % 128, by omega⟩
      = kcArr m c ⟨t.val * 64 + r.val, h⟩ j := by
  rw [gathered_row t r j h]
  rfl

theorem vc_row (t : Fin cfg0.N) (r : Fin 64) (j : Fin 2048) (h : t.val * 64 + r.val < 2048) :
    ProjSpec.col (xRow m c (rowOf t (gathered r j))) (nrm m c) (wgt m c) ⟨2432 + j.val % 128, by omega⟩
      = vcArr m c ⟨t.val * 64 + r.val, h⟩ j := by
  rw [gathered_row t r j h]
  rfl

theorem arr_y : (dats m 0 c).arrAt 6 cfg0.N = fun i : S32768x1792.Idx => yArr m c (i 0) (i 1) := by
  refine (dats m 0 c).arrAt_eq_of_covers 6 _ (by decide +kernel) fun t hf y => ?_
  have hN := lt32 t
  blk_simp
  rw [after0_6]
  obtain ⟨r, j, rfl⟩ : ∃ (r : Fin 1024) (j : Fin 1792), y = ix2 r j := ⟨y 0, y 1, eq_ix2 y⟩
  refine (out_y m c t r j).trans ?_
  have he : ((win0_6.blk t).view.emb (ix2 r j) : S32768x1792.Idx) = ix2 ⟨t.val * 1024 + r.val, by omega⟩ j := by
    blk_ext [(odx t).1]
  rw [he]
  rfl

theorem arr_q : (dats m 0 c).arrAt 7 cfg0.N = fun i : S32768x1024.Idx => qArr m c (i 0) (i 1) := by
  refine (dats m 0 c).arrAt_eq_of_covers 7 _ (by decide +kernel) fun t hf y => ?_
  have hN := lt32 t
  blk_simp
  rw [after0_7]
  obtain ⟨r, j, rfl⟩ : ∃ (r : Fin 1024) (j : Fin 1024), y = ix2 r j := ⟨y 0, y 1, eq_ix2 y⟩
  refine (out_q m c t r j).trans ?_
  have he : ((win0_7.blk t).view.emb (ix2 r j) : S32768x1024.Idx) = ix2 ⟨t.val * 1024 + r.val, by omega⟩ j := by
    blk_ext [(odx t).2.1]
  rw [he]
  rfl

end Cert.ProjIdeal.Block

end
-- ==== Proof.ProjArrayKeys.lean ====
/- The projection call's result arrays, row by row: every grid point writes its own blocks, which tile the arrays. -/
module

public import proofs.«01_k».proof.Proof.ProjArray

@[expose] public section

set_option maxRecDepth 16384

noncomputable section

namespace Cert.ProjIdeal.Block

open Cert.ProjIdeal Cert.ProjIdeal.Gen Idealize.ShloMosaic Idealize.ShloMosaic.TcCoe Idealize.SL.Sem

variable (m : (ℓ : Loc nD τ sig) → Buf (Elt Ideal) ℓ) (c : Dev nD)

theorem arr_ks : (dats m 0 c).arrAt 10 cfg0.N = fun i : S32768x128.Idx => ksArr m c (i 0) (i 1) := by
  refine (dats m 0 c).arrAt_eq_of_covers 10 _ (by decide +kernel) fun t hf y => ?_
  have hN := lt32 t
  blk_simp
  rw [after0_10]
  obtain ⟨r, j, rfl⟩ : ∃ (r : Fin 1024) (j : Fin 128), y = ix2 r j := ⟨y 0, y 1, eq_ix2 y⟩
  refine (out_ks m c t r j).trans ?_
  have he : ((win0_10.blk t).view.emb (ix2 r j) : S32768x128.Idx) = ix2 ⟨t.val * 1024 + r.val, by omega⟩ j := by
    blk_ext [(odx t).2.2.2.2.1]
  rw [he]
  rfl

theorem arr_vs : (dats m 0 c).arrAt 11 cfg0.N = fun i : S32768x128.Idx => vsArr m c (i 0) (i 1) := by
  refine (dats m 0 c).arrAt_eq_of_covers 11 _ (by decide +kernel) fun t hf y => ?_
  have hN := lt32 t
  blk_simp
  rw [after0_11]
  obtain ⟨r, j, rfl⟩ : ∃ (r : Fin 1024) (j : Fin 128), y = ix2 r j := ⟨y 0, y 1, eq_ix2 y⟩
  refine (out_vs m c t r j).trans ?_
  have he : ((win0_11.blk t).view.emb (ix2 r j) : S32768x128.Idx) = ix2 ⟨t.val * 1024 + r.val, by omega⟩ j := by
    blk_ext [(odx t).2.2.2.2.2.1]
  rw [he]
  rfl

theorem arr_kw : (dats m 0 c).arrAt 12 cfg0.N = fun i : S32768x128.Idx => kwArr m c (i 0) (i 1) := by
  refine (dats m 0 c).arrAt_eq_of_covers 12 _ (by decide +kernel) fun t hf y => ?_
  have hN := lt32 t
  blk_simp
  rw [after0_12]
  obtain ⟨r, j, rfl⟩ : ∃ (r : Fin 1024) (j : Fin 128), y = ix2 r j := ⟨y 0, y 1, eq_ix2 y⟩
  refine (out_kw m c t r j).trans ?_
  have he : ((win0_12.blk t).view.emb (ix2 r j) : S32768x128.Idx) = ix2 ⟨t.val * 1024 + r.val, by omega⟩ j := by
    blk_ext [(odx t).2.2.2.2.2.2.1]
  rw [he]
  rfl

theorem arr_vw : (dats m 0 c).arrAt 13 cfg0.N = fun i : S32768x128.Idx => vwArr m c (i 0) (i 1) := by
  refine (dats m 0 c).arrAt_eq_of_covers 13 _ (by decide +kernel) fun t hf y => ?_
  have hN := lt32 t
  blk_simp
  rw [after0_13]
  obtain ⟨r, j, rfl⟩ : ∃ (r : Fin 1024) (j : Fin 128), y = ix2 r j := ⟨y 0, y 1, eq_ix2 y⟩
  refine (out_vw m c t r j).trans ?_
  have he : ((win0_13.blk t).view.emb (ix2 r j) : S32768x128.Idx) = ix2 ⟨t.val * 1024 + r.val, by omega⟩ j := by
    blk_ext [(odx t).2.2.2.2.2.2.2.1]
  rw [he]
  rfl

theorem arr_gl : (dats m 0 c).arrAt 14 cfg0.N = fun i : S32768x128.Idx => glArr m c (i 0) (i 1) := by
  refine (dats m 0 c).arrAt_eq_of_covers 14 _ (by decide +kernel) fun t hf y => ?_
  have hN := lt32 t
  blk_simp
  rw [after0_14]
  obtain ⟨r, j, rfl⟩ : ∃ (r : Fin 1024) (j : Fin 128), y = ix2 r j := ⟨y 0, y 1, eq_ix2 y⟩
  refine (out_gl m c t r j).trans ?_
  have he : ((win0_14.blk t).view.emb (ix2 r j) : S32768x128.Idx) = ix2 ⟨t.val * 1024 + r.val, by omega⟩ j := by
    blk_ext [(odx t).2.2.2.2.2.2.2.2]
  rw [he]
  rfl

end Cert.ProjIdeal.Block

end
-- ==== Proof.ProjBlockValues.lean ====
/- What one grid point of the projection call leaves in the two blocks of the keys and values to be compressed: every
   row gathers sixteen rows, a stride apart, from the scratch of the rotated keys and of the values. -/
module

public import proofs.«01_k».proof.Proof.ProjBlockPages
public import Idealize.ShloMosaic.Lib.Pipeline.ReadBack

@[expose] public section

set_option maxRecDepth 16384

noncomputable section

namespace Cert.ProjIdeal.Block

open Cert.ProjIdeal Cert.ProjIdeal.Gen Idealize.ShloMosaic Idealize.ShloMosaic.TcCoe Idealize.SL.Sem

variable (m : (ℓ : Loc nD τ sig) → Buf (Elt Ideal) ℓ) (c : Dev nD) (t : Fin cfg0.N)

set_option maxHeartbeats 1000000 in
theorem out_vc (r : Fin 64) (j : Fin 2048) :
    ((outsAt0 m c t).2.2.2.1 (ix2 r j) : EReal) = colAt m c t (gathered r j) (valueCol (laneOf j)) := by
  simp only [outsAt0]
  frame_open
  simp (disch := decide) only [↓ View.readCov_skip, ↓ View.readCov_cons_toLoadRect, ↓ View.readCov_fill]
  frame_out
  generalize hy : (ix2 r j : S64x2048.Idx) = y
  canon_tiles x h
  · obtain ⟨a, b, rfl⟩ : ∃ (a : Fin 64) (b : Fin 128), x = ix2 a b := ⟨x 0, x 1, eq_ix2 x⟩
    subst hy
    obtain rfl := row_eq r a h0
    have e1 : j.val = 1920 + b.val := h1
    obtain ⟨g0, g1⟩ := gathered_eq a j 15 (by omega) b (by omega)
    rw [g0, g1]
    pointwise [k0_pay68]
    exact (read_row _ 1 15 (by omega) _ _ _ a b).trans (page_v m c t ⟨15 + 16 * a.val, by omega⟩ b)
  · obtain ⟨a, b, rfl⟩ : ∃ (a : Fin 64) (b : Fin 128), x = ix2 a b := ⟨x 0, x 1, eq_ix2 x⟩
    subst hy
    obtain rfl := row_eq r a h0
    have e1 : j.val = 1792 + b.val := h1
    obtain ⟨g0, g1⟩ := gathered_eq a j 14 (by omega) b (by omega)
    rw [g0, g1]
    pointwise [k0_pay66]
    exact (read_row _ 1 14 (by omega) _ _ _ a b).trans (page_v m c t ⟨14 + 16 * a.val, by omega⟩ b)
  · obtain ⟨a, b, rfl⟩ : ∃ (a : Fin 64) (b : Fin 128), x = ix2 a b := ⟨x 0, x 1, eq_ix2 x⟩
    subst hy
    obtain rfl := row_eq r a h0
    have e1 : j.val = 1664 + b.val := h1
    obtain ⟨g0, g1⟩ := gathered_eq a j 13 (by omega) b (by omega)
    rw [g0, g1]
    pointwise [k0_pay64]
    exact (read_row _ 1 13 (by omega) _ _ _ a b).trans (page_v m c t ⟨13 + 16 * a.val, by omega⟩ b)
  · obtain ⟨a, b, rfl⟩ : ∃ (a : Fin 64) (b : Fin 128), x = ix2 a b := ⟨x 0, x 1, eq_ix2 x⟩
    subst hy
    obtain rfl := row_eq r a h0
    have e1 : j.val = 1536 + b.val := h1
    obtain ⟨g0, g1⟩ := gathered_eq a j 12 (by omega) b (by omega)
    rw [g0, g1]
    pointwise [k0_pay62]
    exact (read_row _ 1 12 (by omega) _ _ _ a b).trans (page_v m c t ⟨12 + 16 * a.val, by omega⟩ b)
  · obtain ⟨a, b, rfl⟩ : ∃ (a : Fin 64) (b : Fin 128), x = ix2 a b := ⟨x 0, x 1, eq_ix2 x⟩
    subst hy
    obtain rfl := row_eq r a h0
    have e1 : j.val = 1408 + b.val := h1
    obtain ⟨g0, g1⟩ := gathered_eq a j 11 (by omega) b (by omega)
    rw [g0, g1]
    pointwise [k0_pay60]
    exact (read_row _ 1 11 (by omega) _ _ _ a b).trans (page_v m c t ⟨11 + 16 * a.val, by omega⟩ b)
  · obtain ⟨a, b, rfl⟩ : ∃ (a : Fin 64) (b : Fin 128), x = ix2 a b := ⟨x 0, x 1, eq_ix2 x⟩
    subst hy
    obtain rfl := row_eq r a h0
    have e1 : j.val = 1280 + b.val := h1
    obtain ⟨g0, g1⟩ := gathered_eq a j 10 (by omega) b (by omega)
    rw [g0, g1]
    pointwise [k0_pay58]
    exact (read_row _ 1 10 (by omega) _ _ _ a b).trans (page_v m c t ⟨10 + 16 * a.val, by omega⟩ b)
  · obtain ⟨a, b, rfl⟩ : ∃ (a : Fin 64) (b : Fin 128), x = ix2 a b := ⟨x 0, x 1, eq_ix2 x⟩
    subst hy
    obtain rfl := row_eq r a h0
    have e1 : j.val = 1152 + b.val := h1
    obtain ⟨g0, g1⟩ := gathered_eq a j 9 (by omega) b (by omega)
    rw [g0, g1]
    pointwise [k0_pay56]
    exact (read_row _ 1 9 (by omega) _ _ _ a b).trans (page_v m c t ⟨9 + 16 * a.val, by omega⟩ b)
  · obtain ⟨a, b, rfl⟩ : ∃ (a : Fin 64) (b : Fin 128), x = ix2 a b := ⟨x 0, x 1, eq_ix2 x⟩
    subst hy
    obtain rfl := row_eq r a h0
    have e1 : j.val = 1024 + b.val := h1
    obtain ⟨g0, g1⟩ := gathered_eq a j 8 (by omega) b (by omega)
    rw [g0, g1]
    pointwise [k0_pay54]
    exact (read_row _ 1 8 (by omega) _ _ _ a b).trans (page_v m c t ⟨8 + 16 * a.val, by omega⟩ b)
  · obtain ⟨a, b, rfl⟩ : ∃ (a : Fin 64) (b : Fin 128), x = ix2 a b := ⟨x 0, x 1, eq_ix2 x⟩
    subst hy
    obtain rfl := row_eq r a h0
    have e1 : j.val = 896 + b.val := h1
    obtain ⟨g0, g1⟩ := gathered_eq a j 7 (by omega) b (by omega)
    rw [g0, g1]
    pointwise [k0_pay52]
    exact (read_row _ 1 7 (by omega) _ _ _ a b).trans (page_v m c t ⟨7 + 16 * a.val, by omega⟩ b)
  · obtain ⟨a, b, rfl⟩ : ∃ (a : Fin 64) (b : Fin 128), x = ix2 a b := ⟨x 0, x 1, eq_ix2 x⟩
    subst hy
    obtain rfl := row_eq r a h0
    have e1 : j.val = 768 + b.val := h1
    obtain ⟨g0, g1⟩ := gathered_eq a j 6 (by omega) b (by omega)
    rw [g0, g1]
    pointwise [k0_pay50]
    exact (read_row _ 1 6 (by omega) _ _ _ a b).trans (page_v m c t ⟨6 + 16 * a.val, by omega⟩ b)
  · obtain ⟨a, b, rfl⟩ : ∃ (a : Fin 64) (b : Fin 128), x = ix2 a b := ⟨x 0, x 1, eq_ix2 x⟩
    subst hy
    obtain rfl := row_eq r a h0
    have e1 : j.val = 640 + b.val := h1
    obtain ⟨g0, g1⟩ := gathered_eq a j 5 (by omega) b (by omega)
    rw [g0, g1]
    pointwise [k0_pay48]
    exact (read_row _ 1 5 (by omega) _ _ _ a b).trans (page_v m c t ⟨5 + 16 * a.val, by omega⟩ b)
  · obtain ⟨a, b, rfl⟩ : ∃ (a : Fin 64) (b : Fin 128), x = ix2 a b := ⟨x 0, x 1, eq_ix2 x⟩
    subst hy
    obtain rfl := row_eq r a h0
    have e1 : j.val = 512 + b.val := h1
    obtain ⟨g0, g1⟩ := gathered_eq a j 4 (by omega) b (by omega)
    rw [g0, g1]
    pointwise [k0_pay46]
    exact (read_row _ 1 4 (by omega) _ _ _ a b).trans (page_v m c t ⟨4 + 16 * a.val, by omega⟩ b)
  · obtain ⟨a, b, rfl⟩ : ∃ (a : Fin 64) (b : Fin 128), x = ix2 a b := ⟨x 0, x 1, eq_ix2 x⟩
    subst hy
    obtain rfl := row_eq r a h0
    have e1 : j.val = 384 + b.val := h1
    obtain ⟨g0, g1⟩ := gathered_eq a j 3 (by omega) b (by omega)
    rw [g0, g1]
    pointwise [k0_pay44]
    exact (read_row _ 1 3 (by omega) _ _ _ a b).trans (page_v m c t ⟨3 + 16 * a.val, by omega⟩ b)
  · obtain ⟨a, b, rfl⟩ : ∃ (a : Fin 64) (b : Fin 128), x = ix2 a b := ⟨x 0, x 1, eq_ix2 x⟩
    subst hy
    obtain rfl := row_eq r a h0
    have e1 : j.val = 256 + b.val := h1
    obtain ⟨g0, g1⟩ := gathered_eq a j 2 (by omega) b (by omega)
    rw [g0, g1]
    pointwise [k0_pay42]
    exact (read_row _ 1 2 (by omega) _ _ _ a b).trans (page_v m c t ⟨2 + 16 * a.val, by omega⟩ b)
  · obtain ⟨a, b, rfl⟩ : ∃ (a : Fin 64) (b : Fin 128), x = ix2 a b := ⟨x 0, x 1, eq_ix2 x⟩
    subst hy
    obtain rfl := row_eq r a h0
    have e1 : j.val = 128 + b.val := h1
    obtain ⟨g0, g1⟩ := gathered_eq a j 1 (by omega) b (by omega)
    rw [g0, g1]
    pointwise [k0_pay40]
    exact (read_row _ 1 1 (by omega) _ _ _ a b).trans (page_v m c t ⟨1 + 16 * a.val, by omega⟩ b)
  · obtain ⟨a, b, rfl⟩ : ∃ (a : Fin 64) (b : Fin 128), x = ix2 a b := ⟨x 0, x 1, eq_ix2 x⟩
    subst hy
    obtain rfl := row_eq r a h0
    have e1 : j.val = b.val := h1
    obtain ⟨g0, g1⟩ := gathered_eq a j 0 (by omega) b (by omega)
    rw [g0, g1]
    pointwise [k0_pay38]
    exact (read_row_zero _ 1 _ _ _ a b).trans (page_v m c t ⟨16 * a.val, by omega⟩ b)

end Cert.ProjIdeal.Block

end
-- ==== Proof.ProjArrayPages.lean ====
/- The projection call's result arrays, row by row: every grid point writes its own blocks, which tile the arrays. -/
module

public import proofs.«01_k».proof.Proof.ProjArray
public import proofs.«01_k».proof.Proof.ProjBlockValues

@[expose] public section

set_option maxRecDepth 16384

noncomputable section

namespace Cert.ProjIdeal.Block

open Cert.ProjIdeal Cert.ProjIdeal.Gen Idealize.ShloMosaic Idealize.ShloMosaic.TcCoe Idealize.SL.Sem

variable (m : (ℓ : Loc nD τ sig) → Buf (Elt Ideal) ℓ) (c : Dev nD)

theorem arr_kc : (dats m 0 c).arrAt 8 cfg0.N = fun i : S2048x2048.Idx => kcArr m c (i 0) (i 1) := by
  refine (dats m 0 c).arrAt_eq_of_covers 8 _ (by decide +kernel) fun t hf y => ?_
  have hN := lt32 t
  blk_simp
  rw [after0_8]
  obtain ⟨r, j, rfl⟩ : ∃ (r : Fin 64) (j : Fin 2048), y = ix2 r j := ⟨y 0, y 1, eq_ix2 y⟩
  refine (out_kc m c t r j).trans ?_
  have he : ((win0_8.blk t).view.emb (ix2 r j) : S2048x2048.Idx) = ix2 ⟨t.val * 64 + r.val, by omega⟩ j := by
    blk_ext [(odx t).2.2.1]
  rw [he]
  exact kc_row m c t r j (by omega)

theorem arr_vc : (dats m 0 c).arrAt 9 cfg0.N = fun i : S2048x2048.Idx => vcArr m c (i 0) (i 1) := by
  refine (dats m 0 c).arrAt_eq_of_covers 9 _ (by decide +kernel) fun t hf y => ?_
  have hN := lt32 t
  blk_simp
  rw [after0_9]
  obtain ⟨r, j, rfl⟩ : ∃ (r : Fin 64) (j : Fin 2048), y = ix2 r j := ⟨y 0, y 1, eq_ix2 y⟩
  refine (out_vc m c t r j).trans ?_
  have he : ((win0_9.blk t).view.emb (ix2 r j) : S2048x2048.Idx) = ix2 ⟨t.val * 64 + r.val, by omega⟩ j := by
    blk_ext [(odx t).2.2.2.1]
  rw [he]
  exact vc_row m c t r j (by omega)

end Cert.ProjIdeal.Block

end
-- ==== Proof.ProjRefValue.lean ====
/- The projection reference's results at one index are the row functions of its arguments' rows. -/
module

public import proofs.«01_k».proof.Proof.Gen.ProjRefIdeal.Run
public import proofs.«01_k».proof.Proof.ProjSpec
public import Idealize.ShloMosaic.Lib.Tactic.CleanTypes

@[expose] public section

set_option maxRecDepth 16384

noncomputable section

namespace Cert.ProjRefIdeal.Apply

open Cert.ProjRefIdeal Cert.ProjRefIdeal.Facts₀ Cert.ProjRefIdeal.Facts Cert.ProjRefIdeal.Value Idealize.ShloMosaic Idealize.ShloMosaic.TcCoe Idealize.ShloMosaic.StableHlo

variable (m : (ℓ : Loc nD τ sig) → Buf (Elt Ideal) ℓ) (c : Dev nD)

abbrev xAt (b : Fin 8) (t : Fin 4096) (k : Fin 1024) : EReal := m ((c.tc : Thread nD τ).loc main_arg0) (ix3 b t k)
abbrev pAt (b : Fin 8) (t : Fin 4096) : BitVec 32 := m ((c.tc : Thread nD τ).loc main_arg1) (ix2 b t)
abbrev nrm (k : Fin 1024) : EReal := m ((c.tc : Thread nD τ).loc main_arg2) (ix2 0 k)
abbrev wgt (k : Fin 1024) (j : Fin 3096) : EReal := m ((c.tc : Thread nD τ).loc main_arg3) (ix3 0 k j)

theorem v15 (b : Fin 8) (t : Fin 4096) (j : Fin 3096) :
    res_main_v15 (F := Ideal) (launchContents m c) (ix3 b t j) = ProjSpec.col (xAt m c b t) (nrm m c) (wgt m c) j := by
  unfold res_main_v15
  clean_types
  pointwise
  rfl

theorem v37 (b : Fin 8) (t : Fin 4096) (e : Fin 32) :
    res_main_v37 (F := Ideal) (launchContents m c) (ix3 b t e) = ProjSpec.ang (pAt m c b t) e := by
  unfold res_main_v37
  clean_types
  pointwise
  rfl

theorem v57 (r : Fin 32768) (g : Fin 2) (h : Fin 4) (d : Fin 64) :
    res_main_v57 (F := Ideal) (launchContents m c) (ix4 r g h d)
      = ProjSpec.head (xAt m c ⟨r.val / 4096, by omega⟩ ⟨r.val % 4096, by omega⟩) (nrm m c) (wgt m c)
          (pAt m c ⟨r.val / 4096, by omega⟩ ⟨r.val % 4096, by omega⟩) (1792 + (g.val * 4 + h.val) * 64) (by omega) d
        * Ideal.ofBits .f32 0x3E38AA3B#32 := by
  unfold res_main_v57 res_main_v42 res_main_v43 res_main_v25 res_main_v39 res_main_v41
  clean_types
  pointwise
  simp only [v15, v37]
  refine congrArg (· * _) ?_
  split
  · exact ProjSpec.head_lo _ _ _ _ _ _ d ‹_› _ _ (by simp only []; omega) (by simp only []; omega)
  · exact ProjSpec.head_hi _ _ _ _ _ _ d ‹_› _ _ (by simp only []; omega) (by simp only []; omega)

theorem v80 (b : Fin 8) (t : Fin 4096) (e : Fin 32) :
    res_main_v80 (F := Ideal) (launchContents m c) (ix3 b t e) = ProjSpec.ang (pAt m c b t) e := by
  unfold res_main_v80
  clean_types
  pointwise
  rfl

theorem v82 (b : Fin 8) (t : Fin 4096) (e : Fin 32) :
    res_main_v82 (F := Ideal) (launchContents m c) (ix4 b t 0 e) = Ideal.cos (ProjSpec.ang (pAt m c b t) e) := by
  unfold res_main_v82
  clean_types
  pointwise
  rw [v80]

theorem v84 (b : Fin 8) (t : Fin 4096) (e : Fin 32) :
    res_main_v84 (F := Ideal) (launchContents m c) (ix4 b t 0 e) = Ideal.sin (ProjSpec.ang (pAt m c b t) e) := by
  unfold res_main_v84
  clean_types
  pointwise
  rw [v80]

theorem v85 (b : Fin 8) (t : Fin 4096) (g : Fin 2) (e : Fin 32) :
    res_main_v85 (F := Ideal) (launchContents m c) (ix4 b t g e)
      = ProjSpec.col (xAt m c b t) (nrm m c) (wgt m c) ⟨2304 + g.val * 64 + (e.val), by omega⟩ := by
  unfold res_main_v85 res_main_v68
  clean_types
  pointwise
  rw [v15]
  exact congrArg _ (Fin.ext (by simp only []; omega))

theorem v86 (b : Fin 8) (t : Fin 4096) (g : Fin 2) (e : Fin 32) :
    res_main_v86 (F := Ideal) (launchContents m c) (ix4 b t g e)
      = ProjSpec.col (xAt m c b t) (nrm m c) (wgt m c) ⟨2304 + g.val * 64 + (e.val + 32), by omega⟩ := by
  unfold res_main_v86 res_main_v68
  clean_types
  pointwise
  rw [v15]
  exact congrArg _ (Fin.ext (by simp only []; omega))

theorem v111 (b : Fin 8) (t : Fin 4096) (e : Fin 32) :
    res_main_v111 (F := Ideal) (launchContents m c) (ix3 b t e) = ProjSpec.ang (pAt m c b t) e := by
  unfold res_main_v111
  clean_types
  pointwise
  rfl

theorem v113 (b : Fin 8) (t : Fin 4096) (e : Fin 32) :
    res_main_v113 (F := Ideal) (launchContents m c) (ix4 b t 0 e) = Ideal.cos (ProjSpec.ang (pAt m c b t) e) := by
  unfold res_main_v113
  clean_types
  pointwise
  rw [v111]

theorem v115 (b : Fin 8) (t : Fin 4096) (e : Fin 32) :
    res_main_v115 (F := Ideal) (launchContents m c) (ix4 b t 0 e) = Ideal.sin (ProjSpec.ang (pAt m c b t) e) := by
  unfold res_main_v115
  clean_types
  pointwise
  rw [v111]

theorem v116 (b : Fin 8) (t : Fin 4096) (g : Fin 2) (e : Fin 32) :
    res_main_v116 (F := Ideal) (launchContents m c) (ix4 b t g e)
      = ProjSpec.col (xAt m c b t) (nrm m c) (wgt m c) ⟨2560 + g.val * 64 + (e.val), by omega⟩ := by
  unfold res_main_v116 res_main_v99
  clean_types
  pointwise
  rw [v15]
  exact congrArg _ (Fin.ext (by simp only []; omega))

theorem v117 (b : Fin 8) (t : Fin 4096) (g : Fin 2) (e : Fin 32) :
    res_main_v117 (F := Ideal) (launchContents m c) (ix4 b t g e)
      = ProjSpec.col (xAt m c b t) (nrm m c) (wgt m c) ⟨2560 + g.val * 64 + (e.val + 32), by omega⟩ := by
  unfold res_main_v117 res_main_v99
  clean_types
  pointwise
  rw [v15]
  exact congrArg _ (Fin.ext (by simp only []; omega))

theorem v142 (b : Fin 8) (t : Fin 4096) (e : Fin 32) :
    res_main_v142 (F := Ideal) (launchContents m c) (ix3 b t e) = ProjSpec.ang (pAt m c b t) e := by
  unfold res_main_v142
  clean_types
  pointwise
  rfl

theorem v144 (b : Fin 8) (t : Fin 4096) (e : Fin 32) :
    res_main_v144 (F := Ideal) (launchContents m c) (ix4 b t 0 e) = Ideal.cos (ProjSpec.ang (pAt m c b t) e) := by
  unfold res_main_v144
  clean_types
  pointwise
  rw [v142]

theorem v146 (b : Fin 8) (t : Fin 4096) (e : Fin 32) :
    res_main_v146 (F := Ideal) (launchContents m c) (ix4 b t 0 e) = Ideal.sin (ProjSpec.ang (pAt m c b t) e) := by
  unfold res_main_v146
  clean_types
  pointwise
  rw [v142]

theorem v147 (b : Fin 8) (t : Fin 4096) (g : Fin 2) (e : Fin 32) :
    res_main_v147 (F := Ideal) (launchContents m c) (ix4 b t g e)
      = ProjSpec.col (xAt m c b t) (nrm m c) (wgt m c) ⟨2816 + g.val * 64 + (e.val), by omega⟩ := by
  unfold res_main_v147 res_main_v130
  clean_types
  pointwise
  rw [v15]
  exact congrArg _ (Fin.ext (by simp only []; omega))

theorem v148 (b : Fin 8) (t : Fin 4096) (g : Fin 2) (e : Fin 32) :
    res_main_v148 (F := Ideal) (launchContents m c) (ix4 b t g e)
      = ProjSpec.col (xAt m c b t) (nrm m c) (wgt m c) ⟨2816 + g.val * 64 + (e.val + 32), by omega⟩ := by
  unfold res_main_v148 res_main_v130
  clean_types
  pointwise
  rw [v15]
  exact congrArg _ (Fin.ext (by simp only []; omega))

end Cert.ProjRefIdeal.Apply

end
-- ==== Proof.ProjRefRes.lean ====
/- What each of the reference's nine results holds, entry by entry. -/
module

public import proofs.«01_k».proof.Proof.ProjRefValue

@[expose] public section

set_option maxRecDepth 16384

noncomputable section

namespace Cert.ProjRefIdeal.Apply

open Cert.ProjRefIdeal Cert.ProjRefIdeal.Facts₀ Cert.ProjRefIdeal.Facts Cert.ProjRefIdeal.Value Idealize.ShloMosaic Idealize.ShloMosaic.TcCoe Idealize.ShloMosaic.StableHlo
variable (m : (ℓ : Loc nD τ sig) → Buf (Elt Ideal) ℓ) (c : Dev nD)

theorem sitofp_zero : FloatOps.sitofp (F := Ideal) .f32 0#32 = (0 : EReal) := by
  show (((0#32 : BitVec 32).toInt : ℝ) : EReal) = 0
  simp

theorem res_yr (r : Fin 32768) (j : Fin 1792) :
    (shapeCast _ (extractStridedSlice S8x4096x1792 ![0, 0, 0] (res_main_v15 (launchContents m c)) slices_S8x4096x3096_S8x4096x1792_0_0_0) shapeCasts_S8x4096x1792_S32768x1792 : FVec Ideal S32768x1792 .f32) (ix2 r j)
      = ProjSpec.col (xAt m c (⟨r.val / 4096, by omega⟩ : Fin 8) (⟨r.val % 4096, by omega⟩ : Fin 4096)) (nrm m c) (wgt m c) ⟨j.val, by omega⟩ := by
  clean_types
  pointwise
  simp only [v15]

theorem res_vs (r : Fin 32768) (l : Fin 128) :
    (truncf .bf16 (shapeCast _ (extractStridedSlice S8x4096x128 ![0, 0, 2688] (res_main_v15 (launchContents m c)) slices_S8x4096x3096_S8x4096x128_0_0_2688) shapeCasts_S8x4096x128_S32768x128) bitsLt_bf16_f32 : FVec Ideal S32768x128 .bf16) (ix2 r l)
      = ProjSpec.col (xAt m c (⟨r.val / 4096, by omega⟩ : Fin 8) (⟨r.val % 4096, by omega⟩ : Fin 4096)) (nrm m c) (wgt m c) ⟨2688 + l.val, by omega⟩ := by
  clean_types
  pointwise
  simp only [v15]

theorem res_vw (r : Fin 32768) (l : Fin 128) :
    (truncf .bf16 (shapeCast _ (extractStridedSlice S8x4096x128 ![0, 0, 2944] (res_main_v15 (launchContents m c)) slices_S8x4096x3096_S8x4096x128_0_0_2944) shapeCasts_S8x4096x128_S32768x128) bitsLt_bf16_f32 : FVec Ideal S32768x128 .bf16) (ix2 r l)
      = ProjSpec.col (xAt m c (⟨r.val / 4096, by omega⟩ : Fin 8) (⟨r.val % 4096, by omega⟩ : Fin 4096)) (nrm m c) (wgt m c) ⟨2944 + l.val, by omega⟩ := by
  clean_types
  pointwise
  simp only [v15]

theorem res_gl (r : Fin 32768) (l : Fin 128) :
    (pad S32768x128 ![0, 0] ![0, 104] ![0, 0] (shapeCast _ (extractStridedSlice S8x4096x24 ![0, 0, 3072] (res_main_v15 (launchContents m c)) slices_S8x4096x3096_S8x4096x24_0_0_3072) shapeCasts_S8x4096x24_S32768x24) (sitofp .f32 (constantI S_ 32 0#32)) pads_S32768x24_S32768x128_000_01040 h_S_ : FVec Ideal S32768x128 .f32) (ix2 r l)
      = ProjSpec.gate (xAt m c (⟨r.val / 4096, by omega⟩ : Fin 8) (⟨r.val % 4096, by omega⟩ : Fin 4096)) (nrm m c) (wgt m c) l := by
  clean_types
  pointwise
  simp only [v15, sitofp_zero]
  rfl

theorem res_vc (R J : Fin 2048) :
    (shapeCast _ (shapeCast _ (extractStridedSlice S8x4096x128 ![0, 0, 2432] (res_main_v15 (launchContents m c)) slices_S8x4096x3096_S8x4096x128_0_0_2432) shapeCasts_S8x4096x128_S32768x128) shapeCasts_S32768x128_S2048x2048 : FVec Ideal S2048x2048 .f32) (ix2 R J)
      = ProjSpec.col (xAt m c (⟨(R.val * 16 + J.val / 128) / 4096, by omega⟩ : Fin 8) (⟨(R.val * 16 + J.val / 128) % 4096, by omega⟩ : Fin 4096)) (nrm m c) (wgt m c) ⟨2432 + J.val % 128, by omega⟩ := by
  clean_types
  pointwise
  simp only [v15]
  have eb : (⟨R.val / 256, by omega⟩ : Fin 8) = ⟨(R.val * 16 + J.val / 128) / 4096, by omega⟩ := Fin.ext (by simp only []; omega)
  have et : (⟨R.val % 256 * 16 + J.val / 128, by omega⟩ : Fin 4096) = ⟨(R.val * 16 + J.val / 128) % 4096, by omega⟩ :=
    Fin.ext (by simp only []; omega)
  rw [eb, et]

theorem res_ks (r : Fin 32768) (l : Fin 128) :
    (truncf .bf16 (shapeCast _ (concatenate S8x4096x2x64 3 [⟨S8x4096x2x32, (subf (mulf (res_main_v116 (launchContents m c)) (broadcastInDim S8x4096x2x32 ![0, 1, 2, 3] bcast_S8x4096x1x32_S8x4096x2x32_0_1_2_3 (res_main_v113 (launchContents m c)))) (mulf (res_main_v117 (launchContents m c)) (broadcastInDim S8x4096x2x32 ![0, 1, 2, 3] bcast_S8x4096x1x32_S8x4096x2x32_0_1_2_3 (res_main_v115 (launchContents m c)))))⟩, ⟨S8x4096x2x32, (addf (mulf (res_main_v117 (launchContents m c)) (broadcastInDim S8x4096x2x32 ![0, 1, 2, 3] bcast_S8x4096x1x32_S8x4096x2x32_0_1_2_3 (res_main_v113 (launchContents m c)))) (mulf (res_main_v116 (launchContents m c)) (broadcastInDim S8x4096x2x32 ![0, 1, 2, 3] bcast_S8x4096x1x32_S8x4096x2x32_0_1_2_3 (res_main_v115 (launchContents m c)))))⟩] concatenates_S8x4096x2x32_S8x4096x2x32_S8x4096x2x64_d3) shapeCasts_S8x4096x2x64_S32768x128) bitsLt_bf16_f32 : FVec Ideal S32768x128 .bf16) (ix2 r l)
      = ProjSpec.pair (xAt m c (⟨r.val / 4096, by omega⟩ : Fin 8) (⟨r.val % 4096, by omega⟩ : Fin 4096)) (nrm m c) (wgt m c) (pAt m c (⟨r.val / 4096, by omega⟩ : Fin 8) (⟨r.val % 4096, by omega⟩ : Fin 4096)) 2560 (by omega) l := by
  clean_types
  pointwise
  simp only [v116, v113, v117, v115]
  refine Eq.trans ?_ (ProjSpec.pair_eq _ _ _ _ _ _ _ (2560 + l.val / 64 * 64) (by omega) (by first | omega | (simp only [] <;> omega))
    ⟨l.val % 64, by omega⟩ (by first | omega | (simp only [] <;> omega)))
  split
  · exact ProjSpec.head_lo _ _ _ _ _ _ ⟨l.val % 64, by omega⟩ ‹_› _ _ (by first | omega | (simp only [] <;> omega)) (by first | omega | (simp only [] <;> omega))
  · exact ProjSpec.head_hi _ _ _ _ _ _ ⟨l.val % 64, by omega⟩ ‹_› _ _ (by first | omega | (simp only [] <;> omega)) (by first | omega | (simp only [] <;> omega))

theorem res_kw (r : Fin 32768) (l : Fin 128) :
    (truncf .bf16 (shapeCast _ (concatenate S8x4096x2x64 3 [⟨S8x4096x2x32, (subf (mulf (res_main_v147 (launchContents m c)) (broadcastInDim S8x4096x2x32 ![0, 1, 2, 3] bcast_S8x4096x1x32_S8x4096x2x32_0_1_2_3 (res_main_v144 (launchContents m c)))) (mulf (res_main_v148 (launchContents m c)) (broadcastInDim S8x4096x2x32 ![0, 1, 2, 3] bcast_S8x4096x1x32_S8x4096x2x32_0_1_2_3 (res_main_v146 (launchContents m c)))))⟩, ⟨S8x4096x2x32, (addf (mulf (res_main_v148 (launchContents m c)) (broadcastInDim S8x4096x2x32 ![0, 1, 2, 3] bcast_S8x4096x1x32_S8x4096x2x32_0_1_2_3 (res_main_v144 (launchContents m c)))) (mulf (res_main_v147 (launchContents m c)) (broadcastInDim S8x4096x2x32 ![0, 1, 2, 3] bcast_S8x4096x1x32_S8x4096x2x32_0_1_2_3 (res_main_v146 (launchContents m c)))))⟩] concatenates_S8x4096x2x32_S8x4096x2x32_S8x4096x2x64_d3) shapeCasts_S8x4096x2x64_S32768x128) bitsLt_bf16_f32 : FVec Ideal S32768x128 .bf16) (ix2 r l)
      = ProjSpec.pair (xAt m c (⟨r.val / 4096, by omega⟩ : Fin 8) (⟨r.val % 4096, by omega⟩ : Fin 4096)) (nrm m c) (wgt m c) (pAt m c (⟨r.val / 4096, by omega⟩ : Fin 8) (⟨r.val % 4096, by omega⟩ : Fin 4096)) 2816 (by omega) l := by
  clean_types
  pointwise
  simp only [v147, v144, v148, v146]
  refine Eq.trans ?_ (ProjSpec.pair_eq _ _ _ _ _ _ _ (2816 + l.val / 64 * 64) (by omega) (by first | omega | (simp only [] <;> omega))
    ⟨l.val % 64, by omega⟩ (by first | omega | (simp only [] <;> omega)))
  split
  · exact ProjSpec.head_lo _ _ _ _ _ _ ⟨l.val % 64, by omega⟩ ‹_› _ _ (by first | omega | (simp only [] <;> omega)) (by first | omega | (simp only [] <;> omega))
  · exact ProjSpec.head_hi _ _ _ _ _ _ ⟨l.val % 64, by omega⟩ ‹_› _ _ (by first | omega | (simp only [] <;> omega)) (by first | omega | (simp only [] <;> omega))

theorem res_kc (R J : Fin 2048) :
    (shapeCast _ (shapeCast _ (concatenate S8x4096x2x64 3 [⟨S8x4096x2x32, (subf (mulf (res_main_v85 (launchContents m c)) (broadcastInDim S8x4096x2x32 ![0, 1, 2, 3] bcast_S8x4096x1x32_S8x4096x2x32_0_1_2_3 (res_main_v82 (launchContents m c)))) (mulf (res_main_v86 (launchContents m c)) (broadcastInDim S8x4096x2x32 ![0, 1, 2, 3] bcast_S8x4096x1x32_S8x4096x2x32_0_1_2_3 (res_main_v84 (launchContents m c)))))⟩, ⟨S8x4096x2x32, (addf (mulf (res_main_v86 (launchContents m c)) (broadcastInDim S8x4096x2x32 ![0, 1, 2, 3] bcast_S8x4096x1x32_S8x4096x2x32_0_1_2_3 (res_main_v82 (launchContents m c)))) (mulf (res_main_v85 (launchContents m c)) (broadcastInDim S8x4096x2x32 ![0, 1, 2, 3] bcast_S8x4096x1x32_S8x4096x2x32_0_1_2_3 (res_main_v84 (launchContents m c)))))⟩] concatenates_S8x4096x2x32_S8x4096x2x32_S8x4096x2x64_d3) shapeCasts_S8x4096x2x64_S32768x128) shapeCasts_S32768x128_S2048x2048 : FVec Ideal S2048x2048 .f32) (ix2 R J)
      = ProjSpec.pair (xAt m c (⟨(R.val * 16 + J.val / 128) / 4096, by omega⟩ : Fin 8) (⟨(R.val * 16 + J.val / 128) % 4096, by omega⟩ : Fin 4096)) (nrm m c) (wgt m c) (pAt m c (⟨(R.val * 16 + J.val / 128) / 4096, by omega⟩ : Fin 8) (⟨(R.val * 16 + J.val / 128) % 4096, by omega⟩ : Fin 4096)) 2304 (by omega) ⟨J.val % 128, by omega⟩ := by
  clean_types
  pointwise
  simp only [v85, v82, v86, v84]
  have eb : (⟨R.val / 256, by omega⟩ : Fin 8) = ⟨(R.val * 16 + J.val / 128) / 4096, by omega⟩ := Fin.ext (by simp only []; omega)
  have et : (⟨R.val % 256 * 16 + J.val / 128, by omega⟩ : Fin 4096) = ⟨(R.val * 16 + J.val / 128) % 4096, by omega⟩ :=
    Fin.ext (by simp only []; omega)
  simp only [eb, et]
  refine Eq.trans ?_ (ProjSpec.pair_eq _ _ _ _ _ _ _ (2304 + J.val / 64 % 2 * 64) (by omega) (by first | omega | (simp only [] <;> omega))
    ⟨J.val % 64, by omega⟩ (by first | omega | (simp only [] <;> omega)))
  split
  · exact ProjSpec.head_lo _ _ _ _ _ _ ⟨J.val % 64, by omega⟩ ‹_› _ _ (by first | omega | (simp only [] <;> omega)) (by first | omega | (simp only [] <;> omega))
  · exact ProjSpec.head_hi _ _ _ _ _ _ ⟨J.val % 64, by omega⟩ ‹_› _ _ (by first | omega | (simp only [] <;> omega)) (by first | omega | (simp only [] <;> omega))

theorem res_q (r : Fin 32768) (j : Fin 1024) :
    (truncf .bf16 (shapeCast _ (concatenate S32768x2x4x128 1 [⟨S32768x1x4x128, (broadcastInDim S32768x1x4x128 ![0, 2, 3] bcast_S32768x4x128_S32768x1x4x128_0_2_3 (pad S32768x4x128 ![0, 0, 0] ![0, 0, 64] ![0, 0, 0] (shapeCast _ (extractStridedSlice S32768x1x4x64 ![0, 0, 0, 0] (res_main_v57 (launchContents m c)) slices_S32768x2x4x64_S32768x1x4x64_0_0_0_0) shapeCasts_S32768x1x4x64_S32768x4x64) (sitofp .f32 (constantI S_ 32 0#32)) pads_S32768x4x64_S32768x4x128_000_000_0640 h_S_))⟩, ⟨S32768x1x4x128, (broadcastInDim S32768x1x4x128 ![0, 2, 3] bcast_S32768x4x128_S32768x1x4x128_0_2_3 (pad S32768x4x128 ![0, 0, 64] ![0, 0, 0] ![0, 0, 0] (shapeCast _ (extractStridedSlice S32768x1x4x64 ![0, 1, 0, 0] (res_main_v57 (launchContents m c)) slices_S32768x2x4x64_S32768x1x4x64_0_1_0_0) shapeCasts_S32768x1x4x64_S32768x4x64) (sitofp .f32 (constantI S_ 32 0#32)) pads_S32768x4x64_S32768x4x128_000_000_6400 h_S_))⟩] concatenates_S32768x1x4x128_S32768x1x4x128_S32768x2x4x128_d1) shapeCasts_S32768x2x4x128_S32768x1024) bitsLt_bf16_f32 : FVec Ideal S32768x1024 .bf16) (ix2 r j)
      = ProjSpec.query (xAt m c (⟨r.val / 4096, by omega⟩ : Fin 8) (⟨r.val % 4096, by omega⟩ : Fin 4096)) (nrm m c) (wgt m c) (pAt m c (⟨r.val / 4096, by omega⟩ : Fin 8) (⟨r.val % 4096, by omega⟩ : Fin 4096)) ⟨j.val / 128, by omega⟩ ⟨j.val % 128, by omega⟩ := by
  clean_types
  pointwise
  simp only [v57, sitofp_zero]
  by_cases h5 : j.val / 512 < 1
  · rw [dif_pos h5]
    by_cases h6 : j.val % 128 < 64
    · rw [dif_pos ⟨by omega, h6⟩]
      exact ProjSpec.query_eq _ _ _ _ _ _ (by first | omega | (simp only [] <;> omega)) _ _ (by simp only [Fin.val_zero]; omega) _ (by first | omega | (simp only [] <;> omega))
    · rw [dif_neg (fun h => h6 h.2)]
      exact ProjSpec.query_zero _ _ _ _ _ _ (by first | omega | (simp only [] <;> omega))
  · rw [dif_neg h5]
    by_cases h6 : 64 ≤ j.val % 128
    · rw [dif_pos ⟨by omega, h6, by omega⟩]
      exact ProjSpec.query_eq _ _ _ _ _ _ (by first | omega | (simp only [] <;> omega)) _ _ (by simp only [Fin.val_one]; omega) _ (by first | omega | (simp only [] <;> omega))
    · rw [dif_neg (fun h => h6 h.2.1)]
      exact ProjSpec.query_zero _ _ _ _ _ _ (by first | omega | (simp only [] <;> omega))

end Cert.ProjRefIdeal.Apply

end
-- ==== Proof.ProjEq.lean ====
/- The nine result arrays are equal where the arguments are. -/
module

public import proofs.«01_k».proof.Proof.ProjArrayKeys
public import proofs.«01_k».proof.Proof.ProjArrayPages
public import proofs.«01_k».proof.Proof.ProjRefRes

@[expose] public section

noncomputable section

namespace Cert.ProjEq

open Idealize.ShloMosaic Idealize.ShloMosaic.TcCoe

variable (m : (ℓ : Loc ProjIdeal.nD ProjIdeal.τ ProjIdeal.sig) → Buf (Elt Ideal) ℓ)
  (m' : (ℓ : Loc ProjRefIdeal.nD ProjRefIdeal.τ ProjRefIdeal.sig) → Buf (Elt Ideal) ℓ) (c : Dev ProjIdeal.nD)

/-- The two programs are given the same tokens, positions, norm weight and projection. -/
structure Agree : Prop where
  x : ProjRefIdeal.Apply.xAt m' c = ProjIdeal.Block.xAt m c
  p : ProjRefIdeal.Apply.pAt m' c = ProjIdeal.Block.pAt m c
  n : ProjRefIdeal.Apply.nrm m' c = ProjIdeal.Block.nrm m c
  w : ProjRefIdeal.Apply.wgt m' c = ProjIdeal.Block.wgt m c

theorem agree
    (h0 : m' ((c.tc : Thread ProjRefIdeal.nD ProjRefIdeal.τ).loc ProjRefIdeal.main_arg0) = m ((c.tc : Thread ProjIdeal.nD ProjIdeal.τ).loc ProjIdeal.main_arg0))
    (h1 : m' ((c.tc : Thread ProjRefIdeal.nD ProjRefIdeal.τ).loc ProjRefIdeal.main_arg1) = m ((c.tc : Thread ProjIdeal.nD ProjIdeal.τ).loc ProjIdeal.main_arg1))
    (h2 : m' ((c.tc : Thread ProjRefIdeal.nD ProjRefIdeal.τ).loc ProjRefIdeal.main_arg2) = m ((c.tc : Thread ProjIdeal.nD ProjIdeal.τ).loc ProjIdeal.main_arg2))
    (h3 : m' ((c.tc : Thread ProjRefIdeal.nD ProjRefIdeal.τ).loc ProjRefIdeal.main_arg3) = m ((c.tc : Thread ProjIdeal.nD ProjIdeal.τ).loc ProjIdeal.main_arg3))
    : Agree m m' c where
  x := funext fun b => funext fun t => funext fun k => congrFun h0 (ix3 b t k)
  p := funext fun b => funext fun t => congrFun h1 (ix2 b t)
  n := funext fun k => congrFun h2 (ix2 0 k)
  w := funext fun k => funext fun j => congrFun h3 (ix3 0 k j)

variable {m m' c}

theorem y_eq (h : Agree m m' c) (X : ProjIdeal.S32768x1792.Idx → EReal)
    (hX : ∀ (r : Fin 32768) (j : Fin 1792), X (ix2 r j) = ProjSpec.col (ProjRefIdeal.Apply.xAt m' c (⟨r.val / 4096, by omega⟩ : Fin 8) (⟨r.val % 4096, by omega⟩ : Fin 4096)) (ProjRefIdeal.Apply.nrm m' c) (ProjRefIdeal.Apply.wgt m' c) ⟨j.val, by omega⟩) :
    X = (ProjIdeal.Gen.dats m 0 c).arrAt 6 ProjIdeal.cfg0.N := by
  rw [ProjIdeal.Block.arr_y]
  funext i
  obtain ⟨r, j, rfl⟩ : ∃ (r : Fin 32768) (j : Fin 1792), i = ix2 r j := ⟨i 0, i 1, eq_ix2 i⟩
  rw [hX, h.x, h.n, h.w]
  rfl

theorem q_eq (h : Agree m m' c) (X : ProjIdeal.S32768x1024.Idx → EReal)
    (hX : ∀ (r : Fin 32768) (j : Fin 1024), X (ix2 r j) = ProjSpec.query (ProjRefIdeal.Apply.xAt m' c (⟨r.val / 4096, by omega⟩ : Fin 8) (⟨r.val % 4096, by omega⟩ : Fin 4096)) (ProjRefIdeal.Apply.nrm m' c) (ProjRefIdeal.Apply.wgt m' c) (ProjRefIdeal.Apply.pAt m' c (⟨r.val / 4096, by omega⟩ : Fin 8) (⟨r.val % 4096, by omega⟩ : Fin 4096)) ⟨j.val / 128, by omega⟩ ⟨j.val % 128, by omega⟩) :
    X = (ProjIdeal.Gen.dats m 0 c).arrAt 7 ProjIdeal.cfg0.N := by
  rw [ProjIdeal.Block.arr_q]
  funext i
  obtain ⟨r, j, rfl⟩ : ∃ (r : Fin 32768) (j : Fin 1024), i = ix2 r j := ⟨i 0, i 1, eq_ix2 i⟩
  rw [hX, h.x, h.p, h.n, h.w]
  rfl

theorem kc_eq (h : Agree m m' c) (X : ProjIdeal.S2048x2048.Idx → EReal)
    (hX : ∀ (r : Fin 2048) (j : Fin 2048), X (ix2 r j) = ProjSpec.pair (ProjRefIdeal.Apply.xAt m' c (⟨(r.val * 16 + j.val / 128) / 4096, by omega⟩ : Fin 8) (⟨(r.val * 16 + j.val / 128) % 4096, by omega⟩ : Fin 4096)) (ProjRefIdeal.Apply.nrm m' c) (ProjRefIdeal.Apply.wgt m' c) (ProjRefIdeal.Apply.pAt m' c (⟨(r.val * 16 + j.val / 128) / 4096, by omega⟩ : Fin 8) (⟨(r.val * 16 + j.val / 128) % 4096, by omega⟩ : Fin 4096)) 2304 (by omega) ⟨j.val % 128, by omega⟩) :
    X = (ProjIdeal.Gen.dats m 0 c).arrAt 8 ProjIdeal.cfg0.N := by
  rw [ProjIdeal.Block.arr_kc]
  funext i
  obtain ⟨r, j, rfl⟩ : ∃ (r : Fin 2048) (j : Fin 2048), i = ix2 r j := ⟨i 0, i 1, eq_ix2 i⟩
  rw [hX, h.x, h.p, h.n, h.w]
  rfl

theorem vc_eq (h : Agree m m' c) (X : ProjIdeal.S2048x2048.Idx → EReal)
    (hX : ∀ (r : Fin 2048) (j : Fin 2048), X (ix2 r j) = ProjSpec.col (ProjRefIdeal.Apply.xAt m' c (⟨(r.val * 16 + j.val / 128) / 4096, by omega⟩ : Fin 8) (⟨(r.val * 16 + j.val / 128) % 4096, by omega⟩ : Fin 4096)) (ProjRefIdeal.Apply.nrm m' c) (ProjRefIdeal.Apply.wgt m' c) ⟨2432 + j.val % 128, by omega⟩) :
    X = (ProjIdeal.Gen.dats m 0 c).arrAt 9 ProjIdeal.cfg0.N := by
  rw [ProjIdeal.Block.arr_vc]
  funext i
  obtain ⟨r, j, rfl⟩ : ∃ (r : Fin 2048) (j : Fin 2048), i = ix2 r j := ⟨i 0, i 1, eq_ix2 i⟩
  rw [hX, h.x, h.n, h.w]
  rfl

theorem ks_eq (h : Agree m m' c) (X : ProjIdeal.S32768x128.Idx → EReal)
    (hX : ∀ (r : Fin 32768) (j : Fin 128), X (ix2 r j) = ProjSpec.pair (ProjRefIdeal.Apply.xAt m' c (⟨r.val / 4096, by omega⟩ : Fin 8) (⟨r.val % 4096, by omega⟩ : Fin 4096)) (ProjRefIdeal.Apply.nrm m' c) (ProjRefIdeal.Apply.wgt m' c) (ProjRefIdeal.Apply.pAt m' c (⟨r.val / 4096, by omega⟩ : Fin 8) (⟨r.val % 4096, by omega⟩ : Fin 4096)) 2560 (by omega) j) :
    X = (ProjIdeal.Gen.dats m 0 c).arrAt 10 ProjIdeal.cfg0.N := by
  rw [ProjIdeal.Block.arr_ks]
  funext i
  obtain ⟨r, j, rfl⟩ : ∃ (r : Fin 32768) (j : Fin 128), i = ix2 r j := ⟨i 0, i 1, eq_ix2 i⟩
  rw [hX, h.x, h.p, h.n, h.w]
  rfl

theorem vs_eq (h : Agree m m' c) (X : ProjIdeal.S32768x128.Idx → EReal)
    (hX : ∀ (r : Fin 32768) (j : Fin 128), X (ix2 r j) = ProjSpec.col (ProjRefIdeal.Apply.xAt m' c (⟨r.val / 4096, by omega⟩ : Fin 8) (⟨r.val % 4096, by omega⟩ : Fin 4096)) (ProjRefIdeal.Apply.nrm m' c) (ProjRefIdeal.Apply.wgt m' c) ⟨2688 + j.val, by omega⟩) :
    X = (ProjIdeal.Gen.dats m 0 c).arrAt 11 ProjIdeal.cfg0.N := by
  rw [ProjIdeal.Block.arr_vs]
  funext i
  obtain ⟨r, j, rfl⟩ : ∃ (r : Fin 32768) (j : Fin 128), i = ix2 r j := ⟨i 0, i 1, eq_ix2 i⟩
  rw [hX, h.x, h.n, h.w]
  rfl

theorem kw_eq (h : Agree m m' c) (X : ProjIdeal.S32768x128.Idx → EReal)
    (hX : ∀ (r : Fin 32768) (j : Fin 128), X (ix2 r j) = ProjSpec.pair (ProjRefIdeal.Apply.xAt m' c (⟨r.val / 4096, by omega⟩ : Fin 8) (⟨r.val % 4096, by omega⟩ : Fin 4096)) (ProjRefIdeal.Apply.nrm m' c) (ProjRefIdeal.Apply.wgt m' c) (ProjRefIdeal.Apply.pAt m' c (⟨r.val / 4096, by omega⟩ : Fin 8) (⟨r.val % 4096, by omega⟩ : Fin 4096)) 2816 (by omega) j) :
    X = (ProjIdeal.Gen.dats m 0 c).arrAt 12 ProjIdeal.cfg0.N := by
  rw [ProjIdeal.Block.arr_kw]
  funext i
  obtain ⟨r, j, rfl⟩ : ∃ (r : Fin 32768) (j : Fin 128), i = ix2 r j := ⟨i 0, i 1, eq_ix2 i⟩
  rw [hX, h.x, h.p, h.n, h.w]
  rfl

theorem vw_eq (h : Agree m m' c) (X : ProjIdeal.S32768x128.Idx → EReal)
    (hX : ∀ (r : Fin 32768) (j : Fin 128), X (ix2 r j) = ProjSpec.col (ProjRefIdeal.Apply.xAt m' c (⟨r.val / 4096, by omega⟩ : Fin 8) (⟨r.val % 4096, by omega⟩ : Fin 4096)) (ProjRefIdeal.Apply.nrm m' c) (ProjRefIdeal.Apply.wgt m' c) ⟨2944 + j.val, by omega⟩) :
    X = (ProjIdeal.Gen.dats m 0 c).arrAt 13 ProjIdeal.cfg0.N := by
  rw [ProjIdeal.Block.arr_vw]
  funext i
  obtain ⟨r, j, rfl⟩ : ∃ (r : Fin 32768) (j : Fin 128), i = ix2 r j := ⟨i 0, i 1, eq_ix2 i⟩
  rw [hX, h.x, h.n, h.w]
  rfl

theorem gl_eq (h : Agree m m' c) (X : ProjIdeal.S32768x128.Idx → EReal)
    (hX : ∀ (r : Fin 32768) (j : Fin 128), X (ix2 r j) = ProjSpec.gate (ProjRefIdeal.Apply.xAt m' c (⟨r.val / 4096, by omega⟩ : Fin 8) (⟨r.val % 4096, by omega⟩ : Fin 4096)) (ProjRefIdeal.Apply.nrm m' c) (ProjRefIdeal.Apply.wgt m' c) j) :
    X = (ProjIdeal.Gen.dats m 0 c).arrAt 14 ProjIdeal.cfg0.N := by
  rw [ProjIdeal.Block.arr_gl]
  funext i
  obtain ⟨r, j, rfl⟩ : ∃ (r : Fin 32768) (j : Fin 128), i = ix2 r j := ⟨i 0, i 1, eq_ix2 i⟩
  rw [hX, h.x, h.n, h.w]
  rfl

end Cert.ProjEq

end
-- ==== Proof.lean ====
/- The claim's parts put together: each kernel frame from its generated run, the reference's from its run, and the value
   claim from the kernel's run, the reference's run and the equality of the two result arrays. -/
module

public import proofs.«01_k».proof.Defs
public import proofs.«01_k».proof.Proof.Gen.Ffn.Frame
public import proofs.«01_k».proof.Proof.Gen.FfnIdeal.Value
public import proofs.«01_k».proof.Proof.Gen.FfnRefIdeal.Run
public import proofs.«01_k».proof.Proof.FfnEq
public import proofs.«01_k».proof.Proof.Gen.Proj.Frame
public import proofs.«01_k».proof.Proof.Gen.ProjIdeal.Value
public import proofs.«01_k».proof.Proof.Gen.ProjRefIdeal.Run
public import proofs.«01_k».proof.Proof.ProjEq
public import proofs.«01_k».proof.Proof.Gen.Rwkv.Frame
public import proofs.«01_k».proof.Proof.Gen.RwkvIdeal.Frame
public import proofs.«01_k».proof.Proof.Gen.Compress.Frame
public import proofs.«01_k».proof.Proof.Gen.CompressIdeal.Frame
public import Idealize.ShloMosaic.Adequacy
public import Idealize.ShloMosaic.Init
public import Idealize.ShloMosaic.Lib.Quiescent

@[expose] public section

noncomputable section

namespace Cert.Proof

open Idealize.ShloMosaic Idealize.SL.Sem

theorem quiescent_FfnRefIdeal : quiescent_FfnRefIdeal := fun m ρ _ =>
  (θ_run Cert.FfnRefIdeal.defs _ _).mono (fun r h => ⟨fun c => (h c).2, sem_eq_zero_of_no_sems (by decide) r.2⟩)
    (Cert.FfnRefIdeal.Value.run (F := Ideal) m ρ)

theorem algebraic_FfnIdeal_FfnRefIdeal : algebraic_FfnIdeal_FfnRefIdeal := by
  intro m ρ m' ρ' _ hagree
  refine ⟨_, Cert.FfnIdeal.Value.run (F := Ideal) m ρ, ?_⟩
  refine (θ_run Cert.FfnRefIdeal.defs _ _).mono (fun _ h c => ⟨?_, (h c).2⟩) (Cert.FfnRefIdeal.Value.run (F := Ideal) m' ρ')
  obtain ⟨h0, h1, h2, h3, h4, h5, h6, h7⟩ := hagree c
  exact (h c).1.trans (Cert.FfnEq.result_eq m m' c h0 h1 h2 h3 h4 h5 h6 h7)

theorem quiescent_ProjRefIdeal : quiescent_ProjRefIdeal := fun m ρ _ =>
  (θ_run Cert.ProjRefIdeal.defs _ _).mono
    (fun r h => ⟨fun c => (h c).2.2.2.2.2.2.2.2.2, sem_eq_zero_of_no_sems (by decide) r.2⟩)
    (Cert.ProjRefIdeal.Value.run (F := Ideal) m ρ)

theorem algebraic_ProjIdeal_ProjRefIdeal : algebraic_ProjIdeal_ProjRefIdeal := by
  intro m ρ m' ρ' _ hagree
  refine ⟨_, _, _, _, _, _, _, _, _, Cert.ProjIdeal.Value.run_blocks (F := Ideal) m ρ, ?_⟩
  refine (θ_run Cert.ProjRefIdeal.defs _ _).mono (fun _ h c => ?_) (Cert.ProjRefIdeal.Value.run (F := Ideal) m' ρ')
  obtain ⟨h0, h1, h2, h3⟩ := hagree c
  have hA := Cert.ProjEq.agree m m' c h0 h1 h2 h3
  obtain ⟨ey, eq, ekc, evc, eks, evs, ekw, evw, egl, hk⟩ := h c
  exact ⟨ey.trans (Cert.ProjEq.y_eq hA _ (Cert.ProjRefIdeal.Apply.res_yr m' c)),
    eq.trans (Cert.ProjEq.q_eq hA _ (Cert.ProjRefIdeal.Apply.res_q m' c)),
    ekc.trans (Cert.ProjEq.kc_eq hA _ (Cert.ProjRefIdeal.Apply.res_kc m' c)),
    evc.trans (Cert.ProjEq.vc_eq hA _ (Cert.ProjRefIdeal.Apply.res_vc m' c)),
    eks.trans (Cert.ProjEq.ks_eq hA _ (Cert.ProjRefIdeal.Apply.res_ks m' c)),
    evs.trans (Cert.ProjEq.vs_eq hA _ (Cert.ProjRefIdeal.Apply.res_vs m' c)),
    ekw.trans (Cert.ProjEq.kw_eq hA _ (Cert.ProjRefIdeal.Apply.res_kw m' c)),
    evw.trans (Cert.ProjEq.vw_eq hA _ (Cert.ProjRefIdeal.Apply.res_vw m' c)),
    egl.trans (Cert.ProjEq.gl_eq hA _ (Cert.ProjRefIdeal.Apply.res_gl m' c)), hk⟩

theorem claim : Cert.Claim := ⟨Cert.Ffn.Gen.facts, Cert.FfnIdeal.Gen.facts, Cert.FfnRefIdeal.Gen.facts,
  Cert.Proj.Gen.facts, Cert.ProjIdeal.Gen.facts, Cert.ProjRefIdeal.Gen.facts,
  Cert.Rwkv.Gen.facts, Cert.RwkvIdeal.Gen.facts,
  Cert.Compress.Gen.facts, Cert.CompressIdeal.Gen.facts,
  fun m ρ _ => Cert.Ffn.Gen.frame m ρ, fun m ρ _ => Cert.FfnIdeal.Gen.frame m ρ, quiescent_FfnRefIdeal,
  fun m ρ _ => Cert.Proj.Gen.frame m ρ, fun m ρ _ => Cert.ProjIdeal.Gen.frame m ρ, quiescent_ProjRefIdeal,
  fun m ρ _ => Cert.Rwkv.Gen.frame m ρ, fun m ρ _ => Cert.RwkvIdeal.Gen.frame m ρ,
  fun m ρ _ => Cert.Compress.Gen.frame m ρ, fun m ρ _ => Cert.CompressIdeal.Gen.frame m ρ,
  (trivial : preserves_Ffn_FfnIdeal), algebraic_FfnIdeal_FfnRefIdeal,
  (trivial : preserves_Proj_ProjIdeal), algebraic_ProjIdeal_ProjRefIdeal,
  (trivial : preserves_Rwkv_RwkvIdeal), (trivial : preserves_Compress_CompressIdeal)⟩

end Cert.Proof

end
